-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v684) = v0 c
          ∧ r.2.mem ((c.tc : Thread Cert.ReferenceIdeal.nD Cert.ReferenceIdeal.τ).loc Cert.ReferenceIdeal.main_v672) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2048x1024 : Shape := ⟨2, ![2048, 1024]⟩
abbrev S8x255x2x1024 : Shape := ⟨4, ![8, 255, 2, 1024]⟩
abbrev S8x256x1024 : Shape := ⟨3, ![8, 256, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S8x255x2x1024 : S_.BroadcastsInDim S8x255x2x1024 (![] : Fin 0 → Fin S8x255x2x1024.rank)
  reducesTo_S8x255x2x1024_S_d0_1_2_3 : S8x255x2x1024.ReducesTo [0, 1, 2, 3] S_

variable [Facts]

def fn {F : FTy → Type} [FloatOps F] (main_arg0 : FVec F S2048x1024 .f32) (main_arg1 : FVec F S8x255x2x1024 .f32) (main_arg2 : FVec F S8x256x1024 .f32) (main_arg3 : IVec S_ 32) : IVec S_ 1 × IVec S_ 1 :=
  let main_cst : FVec F S_ .f32 := constant S_ .f32 0xFF800000#32
  let main_v0 : FVec F S2048x1024 .f32 := broadcastInDim S2048x1024 ![] bcast_S_S2048x1024 main_cst
  let main_v1 : IVec S2048x1024 1 := cmpf .ogt main_arg0 main_v0
  let main_cst_0 : FVec F S_ .f32 := constant S_ .f32 0x7F800000#32
  let main_v2 : FVec F S2048x1024 .f32 := broadcastInDim S2048x1024 ![] bcast_S_S2048x1024 main_cst_0
  let main_v3 : IVec S2048x1024 1 := cmpf .olt main_arg0 main_v2
  let main_v4 : IVec S2048x1024 1 := andi main_v1 main_v3
  let main_c : IVec S_ 1 := constantI S_ 1 1#1
  let main_v5 : IVec S_ 1 := (fun x v => Host.reduce IntOp.andi x v reducesTo_S2048x1024_S_d0_1 h_S_) main_v4 main_c
  let main_cst_1 : FVec F S_ .f32 := constant S_ .f32 0xFF800000#32
  let main_v6 : FVec F S8x255x2x1024 .f32 := broadcastInDim S8x255x2x1024 ![] bcast_S_S8x255x2x1024 main_cst_1
  let main_v7 : IVec S8x255x2x1024 1 := cmpf .ogt main_arg1 main_v6
  let main_cst_2 : FVec F S_ .f32 := constant S_ .f32 0x7F800000#32
  let main_v8 : FVec F S8x255x2x1024 .f32 := broadcastInDim S8x255x2x1024 ![] bcast_S_S8x255x2x1024 main_cst_2
  let main_v9 : IVec S8x255x2x1024 1 := cmpf .olt main_arg1 main_v8
  let main_v10 : IVec S8x255x2x1024 1 := andi main_v7 main_v9
  let main_c_3 : IVec S_ 1 := constantI S_ 1 1#1
  let main_v11 : IVec S_ 1 := (fun x v => Host.reduce IntOp.andi x v reducesTo_S8x255x2x1024_S_d0_1_2_3 h_S_) main_v10 main_c_3
  (main_v5, main_v11)
-- ==== Kernel.lean ====
abbrev S2048x1024 : Shape := ⟨2, ![2048, 1024]⟩
abbrev S8x255x2x1024 : Shape := ⟨4, ![8, 255, 2, 1024]⟩
abbrev S8x256x1024 : Shape := ⟨3, ![8, 256, 1024]⟩
abbrev S_ : Shape := ⟨0, ![]⟩
abbrev S2048x1 : Shape := ⟨2, ![2048, 1]⟩
abbrev S2048x8x1024 : Shape := ⟨3, ![2048, 8, 1024]⟩
abbrev S1x255x2x1024 : Shape := ⟨4, ![1, 255, 2, 1024]⟩
abbrev S256x1024 : Shape := ⟨2, ![256, 1024]⟩
abbrev S256x1 : Shape := ⟨2, ![256, 1]⟩
abbrev S256x8x1024 : Shape := ⟨3, ![256, 8, 1024]⟩
abbrev S8x272x2048 : Shape := ⟨3, ![8, 272, 2048]⟩
abbrev S1x1x2x1024 : Shape := ⟨4, ![1, 1, 2, 1024]⟩
abbrev S1x2x1024 : Shape := ⟨3, ![1, 2, 1024]⟩
abbrev S1x1x1024 : Shape := ⟨3, ![1, 1, 1024]⟩
abbrev S1x1024 : Shape := ⟨2, ![1, 1024]⟩
abbrev S1x2x2x1024 : Shape := ⟨4, ![1, 2, 2, 1024]⟩
abbrev S2x2x1024 : Shape := ⟨3, ![2, 2, 1024]⟩
abbrev S2x1x1024 : Shape := ⟨3, ![2, 1, 1024]⟩
abbrev S2x1024 : Shape := ⟨2, ![2, 1024]⟩
abbrev S1x4x2x1024 : Shape := ⟨4, ![1, 4, 2, 1024]⟩
abbrev S4x2x1024 : Shape := ⟨3, ![4, 2, 1024]⟩
abbrev S4x1x1024 : Shape := ⟨3, ![4, 1, 1024]⟩
abbrev S4x1024 : Shape := ⟨2, ![4, 1024]⟩
abbrev S1x4x1024 : Shape := ⟨3, ![1, 4, 1024]⟩
abbrev S1x8x2x1024 : Shape := ⟨4, ![1, 8, 2, 1024]⟩
abbrev S8x2x1024 : Shape := ⟨3, ![8, 2, 1024]⟩
abbrev S8x1x1024 : Shape := ⟨3, ![8, 1, 1024]⟩
abbrev S8x1024 : Shape := ⟨2, ![8, 1024]⟩
abbrev S1x8x1024 : Shape := ⟨3, ![1, 8, 1024]⟩
abbrev S1x16x2x1024 : Shape := ⟨4, ![1, 16, 2, 1024]⟩
abbrev S16x2x1024 : Shape := ⟨3, ![16, 2, 1024]⟩
abbrev S16x1x1024 : Shape := ⟨3, ![16, 1, 1024]⟩
abbrev S16x1024 : Shape := ⟨2, ![16, 1024]⟩
abbrev S1x16x1024 : Shape := ⟨3, ![1, 16, 1024]⟩
abbrev S1x32x2x1024 : Shape := ⟨4, ![1, 32, 2, 1024]⟩
abbrev S32x2x1024 : Shape := ⟨3, ![32, 2, 1024]⟩
abbrev S32x1x1024 : Shape := ⟨3, ![32, 1, 1024]⟩
abbrev S32x1024 : Shape := ⟨2, ![32, 1024]⟩
abbrev S1x32x1024 : Shape := ⟨3, ![1, 32, 1024]⟩
abbrev S1x64x2x1024 : Shape := ⟨4, ![1, 64, 2, 1024]⟩
abbrev S64x2x1024 : Shape := ⟨3, ![64, 2, 1024]⟩
abbrev S64x1x1024 : Shape := ⟨3, ![64, 1, 1024]⟩
abbrev S64x1024 : Shape := ⟨2, ![64, 1024]⟩
abbrev S1x64x1024 : Shape := ⟨3, ![1, 64, 1024]⟩
abbrev S1x128x2x1024 : Shape := ⟨4, ![1, 128, 2, 1024]⟩
abbrev S128x2x1024 : Shape := ⟨3, ![128, 2, 1024]⟩
abbrev S128x1x1024 : Shape := ⟨3, ![128, 1, 1024]⟩
abbrev S128x1024 : Shape := ⟨2, ![128, 1024]⟩
abbrev S1x128x1024 : Shape := ⟨3, ![1, 128, 1024]⟩
abbrev S1x272x2048 : Shape := ⟨3, ![1, 272, 2048]⟩
abbrev S272x2048 : Shape := ⟨2, ![272, 2048]⟩
abbrev S1x2048 : Shape := ⟨2, ![1, 2048]⟩
abbrev S256x2048 : Shape := ⟨2, ![256, 2048]⟩
abbrev S256 : Shape := ⟨1, ![256]⟩
abbrev S256x8 : Shape := ⟨2, ![256, 8]⟩
abbrev S8x2048 : Shape := ⟨2, ![8, 2048]⟩
abbrev S256x16 : Shape := ⟨2, ![256, 16]⟩
abbrev S16x2048 : Shape := ⟨2, ![16, 2048]⟩
abbrev S256x32 : Shape := ⟨2, ![256, 32]⟩
abbrev S32x2048 : Shape := ⟨2, ![32, 2048]⟩
abbrev S256x64 : Shape := ⟨2, ![256, 64]⟩
abbrev S64x2048 : Shape := ⟨2, ![64, 2048]⟩
abbrev S256x128 : Shape := ⟨2, ![256, 128]⟩
abbrev S128x2048 : Shape := ⟨2, ![128, 2048]⟩
abbrev S256x256 : Shape := ⟨2, ![256, 256]⟩
abbrev S1x256x1024 : Shape := ⟨3, ![1, 256, 1024]⟩
abbrev S256x1x1024 : Shape := ⟨3, ![256, 1, 1024]⟩
abbrev S2048 : Shape := ⟨1, ![2048]⟩
abbrev S16384x1024 : Shape := ⟨2, ![16384, 1024]⟩

abbrev nBuf : Space → Nat
  | .hbm => 8
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S8x255x2x1024, .f32⟩
  | .hbm, ⟨2, _⟩ => ⟨S8x256x1024, .f32⟩
  | .hbm, ⟨3, _⟩ => ⟨S_, .i32⟩
  | .hbm, ⟨4, _⟩ => ⟨S2048x1, .f32⟩
  | .hbm, ⟨5, _⟩ => ⟨S2048x8x1024, .f32⟩
  | .hbm, ⟨6, _⟩ => ⟨S2048, .f32⟩
  | .hbm, ⟨7, _⟩ => ⟨S16384x1024, .f32⟩
  | .local _ .vmem, ⟨0, _⟩ => ⟨S1x255x2x1024, .f32⟩
  | .local _ .vmem, ⟨1, _⟩ => ⟨S1x255x2x1024, .f32⟩
  | .local _ .vmem, ⟨2, _⟩ => ⟨S256x1024, .f32⟩
  | .local _ .vmem, ⟨3, _⟩ => ⟨S256x1024, .f32⟩
  | .local _ .vmem, ⟨4, _⟩ => ⟨S8x256x1024, .f32⟩
  | .local _ .vmem, ⟨5, _⟩ => ⟨S256x1, .f32⟩
  | .local _ .vmem, ⟨6, _⟩ => ⟨S256x1, .f32⟩
  | .local _ .vmem, ⟨7, _⟩ => ⟨S256x8x1024, .f32⟩
  | .local _ .vmem, ⟨8, _⟩ => ⟨S256x8x1024, .f32⟩
  | .local _ .vmem, ⟨9, _⟩ => ⟨S8x272x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg0 : BitVec 32 := BitVec.ofNat 32 (i 0).val
  let v14 : Index := Scalar.indexCast arg0
  let c0_5 : Index := 0#32
  let c0_6 : Index := 0#32
  ![v14.toNat, 0, 0]
def k0_off2 (i : grid0.Coords) : Fin 3 → Nat :=
  let arg0 : BitVec 32 := BitVec.ofNat 32 (i 0).val
  let v14 : Index := Scalar.indexCast arg0
  let c0_5 : Index := 0#32
  let c0_6 : Index := 0#32
  ![v14.toNat, 0, 0]
def k0_off3 (i : grid0.Coords) : Fin 3 → Nat :=
  let arg0 : BitVec 32 := BitVec.ofNat 32 (i 0).val
  let v24 : Index := Scalar.indexCast arg0
  let c0_8 : Index := 0#32
  let c1024 : Index := 1024#32
  ![v24.toNat, 0, 1024]
def k0_off4 (i : grid0.Coords) : Fin 3 → Nat :=
  let arg0 : BitVec 32 := BitVec.ofNat 32 (i 0).val
  let v24 : Index := Scalar.indexCast arg0
  let c0_8 : Index := 0#32
  let c1024 : Index := 1024#32
  ![v24.toNat, 0, 1024]
def k0_off5 (i : grid0.Coords) : Fin 3 → Nat :=
  let arg0 : BitVec 32 := BitVec.ofNat 32 (i 0).val
  let v36 : Index := Scalar.indexCast arg0
  let c8 : Index := 8#32
  let c0_13 : Index := 0#32
  ![v36.toNat, 8, 0]
def k0_off6 (i : grid0.Coords) : Fin 3 → Nat :=
  let arg0 : BitVec 32 := BitVec.ofNat 32 (i 0).val
  let v46 : Index := Scalar.indexCast arg0
  let c8_15 : Index := 8#32
  let c1024_16 : Index := 1024#32
  ![v46.toNat, 8, 1024]
def k0_off7 (i : grid0.Coords) : Fin 3 → Nat :=
  let arg0 : BitVec 32 := BitVec.ofNat 32 (i 0).val
  let v58 : Index := Scalar.indexCast arg0
  let c16 : Index := 16#32
  let c0_21 : Index := 0#32
  ![v58.toNat, 16, 0]
def k0_off8 (i : grid0.Coords) : Fin 3 → Nat :=
  let arg0 : BitVec 32 := BitVec.ofNat 32 (i 0).val
  let v68 : Index := Scalar.indexCast arg0
  let c16_23 : Index := 16#32
  let c1024_24 : Index := 1024#32
  ![v68.toNat, 16, 1024]
def k0_off9 (i : grid0.Coords) : Fin 3 → Nat :=
  let arg0 : BitVec 32 := BitVec.ofNat 32 (i 0).val
  let v80 : Index := Scalar.indexCast arg0
  let c24 : Index := 24#32
  let c0_29 : Index := 0#32
  ![v80.toNat, 24, 0]
def k0_off10 (i : grid0.Coords) : Fin 3 → Nat :=
  let arg0 : BitVec 32 := BitVec.ofNat 32 (i 0).val
  let v90 : Index := Scalar.indexCast arg0
  let c24_31 : Index := 24#32
  let c1024_32 : Index := 1024#32
  ![v90.toNat, 24, 1024]
def k0_off11 (i : grid0.Coords) : Fin 3 → Nat :=
  let arg0 : BitVec 32 := BitVec.ofNat 32 (i 0).val
  let v102 : Index := Scalar.indexCast arg0
  let c32 : Index := 32#32
  let c0_37 : Index := 0#32
  ![v102.toNat, 32, 0]
def k0_off12 (i : grid0.Coords) : Fin 3 → Nat :=
  let arg0 : BitVec 32 := BitVec.ofNat 32 (i 0).val
  let v112 : Index := Scalar.indexCast arg0
  let c32_39 : Index := 32#32
  let c1024_40 : Index := 1024#32
  ![v112.toNat, 32, 1024]
def k0_off13 (i : grid0.Coords) : Fin 3 → Nat :=
  let arg0 : BitVec 32 := BitVec.ofNat 32 (i 0).val
  let v124 : Index := Scalar.indexCast arg0
  let c48 : Index := 48#32
  let c0_45 : Index := 0#32
  ![v124.toNat, 48, 0]
def k0_off14 (i : grid0.Coords) : Fin 3 → Nat :=
  let arg0 : BitVec 32 := BitVec.ofNat 32 (i 0).val
  let v134 : Index := Scalar.indexCast arg0
  let c48_47 : Index := 48#32
  let c1024_48 : Index := 1024#32
  ![v134.toNat, 48, 1024]
def k0_off15 (i : grid0.Coords) : Fin 3 → Nat :=
  let arg0 : BitVec 32 := BitVec.ofNat 32 (i 0).val
  let v146 : Index := Scalar.indexCast arg0
  let c80 : Index := 80#32
  let c0_53 : Index := 0#32
  ![v146.toNat, 80, 0]
def k0_off16 (i : grid0.Coords) : Fin 3 → Nat :=
  let arg0 : BitVec 32 := BitVec.ofNat 32 (i 0).val
  let v156 : Index := Scalar.indexCast arg0
  let c80_55 : Index := 80#32
  let c1024_56 : Index := 1024#32
  ![v156.toNat, 80, 1024]
def k0_off17 (i : grid0.Coords) : Fin 3 → Nat :=
  let arg0 : BitVec 32 := BitVec.ofNat 32 (i 0).val
  let v168 : Index := Scalar.indexCast arg0
  let c144 : Index := 144#32
  let c0_61 : Index := 0#32
  ![v168.toNat, 144, 0]
def k0_off18 (i : grid0.Coords) : Fin 3 → Nat :=
  let arg0 : BitVec 32 := BitVec.ofNat 32 (i 0).val
  let v178 : Index := Scalar.indexCast arg0
  let c144_63 : Index := 144#32
  let c1024_64 : Index := 1024#32
  ![v178.toNat, 144, 1024]
def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 4 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S1x255x2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2048x1024 : Shape := ⟨2, ![2048, 1024]⟩
abbrev S8x255x2x1024 : Shape := ⟨4, ![8, 255, 2, 1024]⟩
abbrev S8x256x1024 : Shape := ⟨3, ![8, 256, 1024]⟩
abbrev S_ : Shape := ⟨0, ![]⟩
abbrev S2048x1x1024 : Shape := ⟨3, ![2048, 1, 1024]⟩
abbrev S2048x8x1024 : Shape := ⟨3, ![2048, 8, 1024]⟩
abbrev S16384x1024 : Shape := ⟨2, ![16384, 1024]⟩
abbrev S8 : Shape := ⟨1, ![8]⟩
abbrev S1x8 : Shape := ⟨2, ![1, 8]⟩
abbrev S2048x8 : Shape := ⟨2, ![2048, 8]⟩
abbrev S16384 : Shape := ⟨1, ![16384]⟩
abbrev S2040x2048 : Shape := ⟨2, ![2040, 2048]⟩
abbrev S16384x1 : Shape := ⟨2, ![16384, 1]⟩
abbrev S1 : Shape := ⟨1, ![1]⟩
abbrev S1x1 : Shape := ⟨2, ![1, 1]⟩
abbrev S16384x2048 : Shape := ⟨2, ![16384, 2048]⟩
abbrev S16384x2x1024 : Shape := ⟨3, ![16384, 2, 1024]⟩
abbrev S16384x1x1024 : Shape := ⟨3, ![16384, 1, 1024]⟩
abbrev S2048 : Shape := ⟨1, ![2048]⟩
abbrev S2048x1 : Shape := ⟨2, ![2048, 1]⟩

abbrev nBuf : Space → Nat
  | .hbm => 955
  | .vmem => 0
  | .smem => 0
  | _ => 0

abbrev hbmTy0_0 (i : Nat) : BufTy := match i % 128 with
  | 0 => ⟨S2048x1024, .f32⟩
  | 1 => ⟨S8x255x2x1024, .f32⟩
  | 2 => ⟨S8x256x1024, .f32⟩
  | 3 => ⟨S_, .i32⟩
  | 4 => ⟨S2048x1x1024, .f32⟩
  | 5 => ⟨S2048x8x1024, .f32⟩
  | 6 => ⟨S16384x1024, .f32⟩
  | 7 => ⟨S8, .i32⟩
  | 8 => ⟨S1x8, .i32⟩
  | 9 => ⟨S2048x8, .i32⟩
  | 10 => ⟨S16384, .i32⟩
  | 11 => ⟨S2040x2048, .f32⟩
  | 12 => ⟨S2048x1024, .f32⟩
  | 13 => ⟨S_, .i32⟩
  | 14 => ⟨S16384, .i32⟩
  | 15 => ⟨S_, .i32⟩
  | 16 => ⟨S16384, .i32⟩
  | 17 => ⟨S16384, .i32⟩
  | 18 => ⟨S_, .i32⟩
  | 19 => ⟨S16384, .i32⟩
  | 20 => ⟨S16384, .i32⟩
  | 21 => ⟨S16384, .i32⟩
  | 22 => ⟨S_, .i32⟩
  | 23 => ⟨S16384, .i32⟩
  | 24 => ⟨S16384, .i1⟩
  | 25 => ⟨S_, .i32⟩
  | 26 => ⟨S16384, .i32⟩
  | 27 => ⟨S16384, .i32⟩
  | 28 => ⟨S16384, .i32⟩
  | 29 => ⟨S16384x1, .i32⟩
  | 30 => ⟨S1, .i32⟩
  | 31 => ⟨S_, .i32⟩
  | 32 => ⟨S16384x1, .i32⟩
  | 33 => ⟨S16384x1, .i1⟩
  | 34 => ⟨S1x1, .i32⟩
  | 35 => ⟨S16384x1, .i32⟩
  | 36 => ⟨S16384x1, .i1⟩
  | 37 => ⟨S16384x1, .i1⟩
  | 38 => ⟨S_, .i1⟩
  | 39 => ⟨S16384, .i1⟩
  | 40 => ⟨S16384x2048, .f32⟩
  | 41 => ⟨S16384x2048, .i1⟩
  | 42 => ⟨S_, .f32⟩
  | 43 => ⟨S16384x2048, .f32⟩
  | 44 => ⟨S16384x2048, .f32⟩
  | 45 => ⟨S16384x2x1024, .f32⟩
  | 46 => ⟨S16384x1x1024, .f32⟩
  | 47 => ⟨S16384x1024, .f32⟩
  | 48 => ⟨S16384x1x1024, .f32⟩
  | 49 => ⟨S16384x1024, .f32⟩
  | 50 => ⟨S16384x1024, .f32⟩
  | 51 => ⟨S16384x1024, .f32⟩
  | 52 => ⟨S16384x1024, .f32⟩
  | 53 => ⟨S16384x1024, .f32⟩
  | 54 => ⟨S16384x1024, .i1⟩
  | 55 => ⟨S16384x1024, .f32⟩
  | 56 => ⟨S16384x1024, .f32⟩
  | 57 => ⟨S16384x1024, .f32⟩
  | 58 => ⟨S16384x1024, .f32⟩
  | 59 => ⟨S16384x1024, .f32⟩
  | 60 => ⟨S16384x1024, .f32⟩
  | 61 => ⟨S16384x1024, .f32⟩
  | 62 => ⟨S16384x1024, .f32⟩
  | 63 => ⟨S16384x1024, .f32⟩
  | 64 => ⟨S16384x1024, .f32⟩
  | 65 => ⟨S16384x1024, .f32⟩
  | 66 => ⟨S16384x1024, .f32⟩
  | 67 => ⟨S16384x1024, .f32⟩
  | 68 => ⟨S16384x1024, .i1⟩
  | 69 => ⟨S16384x1024, .f32⟩
  | 70 => ⟨S16384x1024, .f32⟩
  | 71 => ⟨S16384x1024, .f32⟩
  | 72 => ⟨S16384x1024, .f32⟩
  | 73 => ⟨S16384x1024, .f32⟩
  | 74 => ⟨S16384x1024, .f32⟩
  | 75 => ⟨S16384x1024, .f32⟩
  | 76 => ⟨S16384x1024, .f32⟩
  | 77 => ⟨S16384x1024, .f32⟩
  | 78 => ⟨S16384x1024, .f32⟩
  | 79 => ⟨S16384x1024, .i1⟩
  | 80 => ⟨S16384x1024, .f32⟩
  | 81 => ⟨S16384x1024, .f32⟩
  | 82 => ⟨S16384x1024, .f32⟩
  | 83 => ⟨S16384x1024, .f32⟩
  | 84 => ⟨S16384x1024, .f32⟩
  | 85 => ⟨S16384x1024, .f32⟩
  | 86 => ⟨S16384x1024, .f32⟩
  | 87 => ⟨S16384x1024, .f32⟩
  | 88 => ⟨S_, .f32⟩
  | 89 => ⟨S16384, .f32⟩
  | 90 => ⟨S16384x1, .f32⟩
  | 91 => ⟨S16384x1024, .f32⟩
  | 92 => ⟨S16384x1024, .f32⟩
  | 93 => ⟨S16384x1024, .f32⟩
  | 94 => ⟨S_, .f32⟩
  | 95 => ⟨S16384, .f32⟩
  | 96 => ⟨S16384, .f32⟩
  | 97 => ⟨S16384, .f32⟩
  | 98 => ⟨S16384, .f32⟩
  | 99 => ⟨S16384, .f32⟩
  | 100 => ⟨S_, .f32⟩
  | 101 => ⟨S16384, .f32⟩
  | 102 => ⟨S16384, .i1⟩
  | 103 => ⟨S16384, .f32⟩
  | 104 => ⟨S_, .i32⟩
  | 105 => ⟨S16384, .i32⟩
  | 106 => ⟨S16384, .i32⟩
  | 107 => ⟨S16384, .i32⟩
  | 108 => ⟨S16384, .i32⟩
  | 109 => ⟨S_, .f32⟩
  | 110 => ⟨S16384, .f32⟩
  | 111 => ⟨S16384, .f32⟩
  | 112 => ⟨S_, .f32⟩
  | 113 => ⟨S16384, .f32⟩
  | 114 => ⟨S16384, .f32⟩
  | 115 => ⟨S16384, .f32⟩
  | 116 => ⟨S_, .i32⟩
  | 117 => ⟨S16384, .i32⟩
  | 118 => ⟨S16384, .i32⟩
  | 119 => ⟨S_, .i32⟩
  | 120 => ⟨S16384, .i32⟩
  | 121 => ⟨S16384, .i32⟩
  | 122 => ⟨S16384, .i32⟩
  | 123 => ⟨S_, .i32⟩
  | 124 => ⟨S16384, .i32⟩
  | 125 => ⟨S16384, .i1⟩
  | 126 => ⟨S_, .i32⟩
  | 127 => ⟨S16384, .i32⟩
  | _ => ⟨S2048x1024, .f32⟩

abbrev hbmTy0_1 (i : Nat) : BufTy := match i % 128 with
  | 0 => ⟨S16384, .i32⟩
  | 1 => ⟨S16384, .i32⟩
  | 2 => ⟨S16384x1, .i32⟩
  | 3 => ⟨S1, .i32⟩
  | 4 => ⟨S_, .i32⟩
  | 5 => ⟨S16384x1, .i32⟩
  | 6 => ⟨S16384x1, .i1⟩
  | 7 => ⟨S1x1, .i32⟩
  | 8 => ⟨S16384x1, .i32⟩
  | 9 => ⟨S16384x1, .i1⟩
  | 10 => ⟨S16384x1, .i1⟩
  | 11 => ⟨S_, .i1⟩
  | 12 => ⟨S16384, .i1⟩
  | 13 => ⟨S16384x2048, .f32⟩
  | 14 => ⟨S16384x2048, .i1⟩
  | 15 => ⟨S_, .f32⟩
  | 16 => ⟨S16384x2048, .f32⟩
  | 17 => ⟨S16384x2048, .f32⟩
  | 18 => ⟨S16384x2x1024, .f32⟩
  | 19 => ⟨S16384x1x1024, .f32⟩
  | 20 => ⟨S16384x1024, .f32⟩
  | 21 => ⟨S16384x1x1024, .f32⟩
  | 22 => ⟨S16384x1024, .f32⟩
  | 23 => ⟨S16384x1024, .f32⟩
  | 24 => ⟨S16384x1024, .f32⟩
  | 25 => ⟨S16384x1024, .f32⟩
  | 26 => ⟨S16384x1024, .f32⟩
  | 27 => ⟨S16384x1024, .i1⟩
  | 28 => ⟨S16384x1024, .f32⟩
  | 29 => ⟨S16384x1024, .f32⟩
  | 30 => ⟨S16384x1024, .f32⟩
  | 31 => ⟨S16384x1024, .f32⟩
  | 32 => ⟨S16384x1024, .f32⟩
  | 33 => ⟨S16384x1024, .f32⟩
  | 34 => ⟨S16384x1024, .f32⟩
  | 35 => ⟨S16384x1024, .f32⟩
  | 36 => ⟨S16384x1024, .f32⟩
  | 37 => ⟨S16384x1024, .f32⟩
  | 38 => ⟨S16384x1024, .f32⟩
  | 39 => ⟨S16384x1024, .f32⟩
  | 40 => ⟨S16384x1024, .f32⟩
  | 41 => ⟨S16384x1024, .i1⟩
  | 42 => ⟨S16384x1024, .f32⟩
  | 43 => ⟨S16384x1024, .f32⟩
  | 44 => ⟨S16384x1024, .f32⟩
  | 45 => ⟨S16384x1024, .f32⟩
  | 46 => ⟨S16384x1024, .f32⟩
  | 47 => ⟨S16384x1024, .f32⟩
  | 48 => ⟨S16384x1024, .f32⟩
  | 49 => ⟨S16384x1024, .f32⟩
  | 50 => ⟨S16384x1024, .f32⟩
  | 51 => ⟨S16384x1024, .f32⟩
  | 52 => ⟨S16384x1024, .i1⟩
  | 53 => ⟨S16384x1024, .f32⟩
  | 54 => ⟨S16384x1024, .f32⟩
  | 55 => ⟨S16384x1024, .f32⟩
  | 56 => ⟨S16384x1024, .f32⟩
  | 57 => ⟨S16384x1024, .f32⟩
  | 58 => ⟨S16384x1024, .f32⟩
  | 59 => ⟨S16384x1024, .f32⟩
  | 60 => ⟨S16384x1024, .f32⟩
  | 61 => ⟨S_, .f32⟩
  | 62 => ⟨S16384, .f32⟩
  | 63 => ⟨S16384x1, .f32⟩
  | 64 => ⟨S16384x1024, .f32⟩
  | 65 => ⟨S16384x1024, .f32⟩
  | 66 => ⟨S16384x1024, .f32⟩
  | 67 => ⟨S_, .f32⟩
  | 68 => ⟨S16384, .f32⟩
  | 69 => ⟨S16384, .f32⟩
  | 70 => ⟨S16384, .f32⟩
  | 71 => ⟨S16384, .f32⟩
  | 72 => ⟨S16384, .f32⟩
  | 73 => ⟨S_, .f32⟩
  | 74 => ⟨S16384, .f32⟩
  | 75 => ⟨S16384, .i1⟩
  | 76 => ⟨S16384, .f32⟩
  | 77 => ⟨S_, .i32⟩
  | 78 => ⟨S16384, .i32⟩
  | 79 => ⟨S16384, .i32⟩
  | 80 => ⟨S16384, .i32⟩
  | 81 => ⟨S16384, .i32⟩
  | 82 => ⟨S_, .f32⟩
  | 83 => ⟨S16384, .f32⟩
  | 84 => ⟨S16384, .f32⟩
  | 85 => ⟨S_, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .i1⟩
  | 94 => ⟨S16384, .f32⟩
  | 95 => ⟨S16384, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S_, .i32⟩
  | 103 => ⟨S16384, .i32⟩
  | 104 => ⟨S16384, .i32⟩
  | 105 => ⟨S_, .i32⟩
  | 106 => ⟨S16384, .i32⟩
  | 107 => ⟨S16384, .i32⟩
  | 108 => ⟨S16384, .i32⟩
  | 109 => ⟨S_, .i32⟩
  | 110 => ⟨S16384, .i32⟩
  | 111 => ⟨S16384, .i1⟩
  | 112 => ⟨S_, .i32⟩
  | 113 => ⟨S16384, .i32⟩
  | 114 => ⟨S16384, .i32⟩
  | 115 => ⟨S16384, .i32⟩
  | 116 => ⟨S16384x1, .i32⟩
  | 117 => ⟨S1, .i32⟩
  | 118 => ⟨S_, .i32⟩
  | 119 => ⟨S16384x1, .i32⟩
  | 120 => ⟨S16384x1, .i1⟩
  | 121 => ⟨S1x1, .i32⟩
  | 122 => ⟨S16384x1, .i32⟩
  | 123 => ⟨S16384x1, .i1⟩
  | 124 => ⟨S16384x1, .i1⟩
  | 125 => ⟨S_, .i1⟩
  | 126 => ⟨S16384, .i1⟩
  | 127 => ⟨S16384x2048, .f32⟩
  | _ => ⟨S2048x1024, .f32⟩

abbrev hbmTy0_2 (i : Nat) : BufTy := match i % 128 with
  | 0 => ⟨S16384x2048, .i1⟩
  | 1 => ⟨S_, .f32⟩
  | 2 => ⟨S16384x2048, .f32⟩
  | 3 => ⟨S16384x2048, .f32⟩
  | 4 => ⟨S16384x2x1024, .f32⟩
  | 5 => ⟨S16384x1x1024, .f32⟩
  | 6 => ⟨S16384x1024, .f32⟩
  | 7 => ⟨S16384x1x1024, .f32⟩
  | 8 => ⟨S16384x1024, .f32⟩
  | 9 => ⟨S16384x1024, .f32⟩
  | 10 => ⟨S16384x1024, .f32⟩
  | 11 => ⟨S16384x1024, .f32⟩
  | 12 => ⟨S16384x1024, .f32⟩
  | 13 => ⟨S16384x1024, .i1⟩
  | 14 => ⟨S16384x1024, .f32⟩
  | 15 => ⟨S16384x1024, .f32⟩
  | 16 => ⟨S16384x1024, .f32⟩
  | 17 => ⟨S16384x1024, .f32⟩
  | 18 => ⟨S16384x1024, .f32⟩
  | 19 => ⟨S16384x1024, .f32⟩
  | 20 => ⟨S16384x1024, .f32⟩
  | 21 => ⟨S16384x1024, .f32⟩
  | 22 => ⟨S16384x1024, .f32⟩
  | 23 => ⟨S16384x1024, .f32⟩
  | 24 => ⟨S16384x1024, .f32⟩
  | 25 => ⟨S16384x1024, .f32⟩
  | 26 => ⟨S16384x1024, .f32⟩
  | 27 => ⟨S16384x1024, .i1⟩
  | 28 => ⟨S16384x1024, .f32⟩
  | 29 => ⟨S16384x1024, .f32⟩
  | 30 => ⟨S16384x1024, .f32⟩
  | 31 => ⟨S16384x1024, .f32⟩
  | 32 => ⟨S16384x1024, .f32⟩
  | 33 => ⟨S16384x1024, .f32⟩
  | 34 => ⟨S16384x1024, .f32⟩
  | 35 => ⟨S16384x1024, .f32⟩
  | 36 => ⟨S16384x1024, .f32⟩
  | 37 => ⟨S16384x1024, .f32⟩
  | 38 => ⟨S16384x1024, .i1⟩
  | 39 => ⟨S16384x1024, .f32⟩
  | 40 => ⟨S16384x1024, .f32⟩
  | 41 => ⟨S16384x1024, .f32⟩
  | 42 => ⟨S16384x1024, .f32⟩
  | 43 => ⟨S16384x1024, .f32⟩
  | 44 => ⟨S16384x1024, .f32⟩
  | 45 => ⟨S16384x1024, .f32⟩
  | 46 => ⟨S16384x1024, .f32⟩
  | 47 => ⟨S_, .f32⟩
  | 48 => ⟨S16384, .f32⟩
  | 49 => ⟨S16384x1, .f32⟩
  | 50 => ⟨S16384x1024, .f32⟩
  | 51 => ⟨S16384x1024, .f32⟩
  | 52 => ⟨S16384x1024, .f32⟩
  | 53 => ⟨S_, .f32⟩
  | 54 => ⟨S16384, .f32⟩
  | 55 => ⟨S16384, .f32⟩
  | 56 => ⟨S16384, .f32⟩
  | 57 => ⟨S16384, .f32⟩
  | 58 => ⟨S16384, .f32⟩
  | 59 => ⟨S_, .f32⟩
  | 60 => ⟨S16384, .f32⟩
  | 61 => ⟨S16384, .i1⟩
  | 62 => ⟨S16384, .f32⟩
  | 63 => ⟨S_, .i32⟩
  | 64 => ⟨S16384, .i32⟩
  | 65 => ⟨S16384, .i32⟩
  | 66 => ⟨S16384, .i32⟩
  | 67 => ⟨S16384, .i32⟩
  | 68 => ⟨S_, .f32⟩
  | 69 => ⟨S16384, .f32⟩
  | 70 => ⟨S16384, .f32⟩
  | 71 => ⟨S_, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .i1⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S_, .i32⟩
  | 89 => ⟨S16384, .i32⟩
  | 90 => ⟨S16384, .i32⟩
  | 91 => ⟨S_, .i32⟩
  | 92 => ⟨S16384, .i32⟩
  | 93 => ⟨S16384, .i32⟩
  | 94 => ⟨S16384, .i32⟩
  | 95 => ⟨S_, .i32⟩
  | 96 => ⟨S16384, .i32⟩
  | 97 => ⟨S16384, .i1⟩
  | 98 => ⟨S_, .i32⟩
  | 99 => ⟨S16384, .i32⟩
  | 100 => ⟨S16384, .i32⟩
  | 101 => ⟨S16384, .i32⟩
  | 102 => ⟨S16384x1, .i32⟩
  | 103 => ⟨S1, .i32⟩
  | 104 => ⟨S_, .i32⟩
  | 105 => ⟨S16384x1, .i32⟩
  | 106 => ⟨S16384x1, .i1⟩
  | 107 => ⟨S1x1, .i32⟩
  | 108 => ⟨S16384x1, .i32⟩
  | 109 => ⟨S16384x1, .i1⟩
  | 110 => ⟨S16384x1, .i1⟩
  | 111 => ⟨S_, .i1⟩
  | 112 => ⟨S16384, .i1⟩
  | 113 => ⟨S16384x2048, .f32⟩
  | 114 => ⟨S16384x2048, .i1⟩
  | 115 => ⟨S_, .f32⟩
  | 116 => ⟨S16384x2048, .f32⟩
  | 117 => ⟨S16384x2048, .f32⟩
  | 118 => ⟨S16384x2x1024, .f32⟩
  | 119 => ⟨S16384x1x1024, .f32⟩
  | 120 => ⟨S16384x1024, .f32⟩
  | 121 => ⟨S16384x1x1024, .f32⟩
  | 122 => ⟨S16384x1024, .f32⟩
  | 123 => ⟨S16384x1024, .f32⟩
  | 124 => ⟨S16384x1024, .f32⟩
  | 125 => ⟨S16384x1024, .f32⟩
  | 126 => ⟨S16384x1024, .f32⟩
  | 127 => ⟨S16384x1024, .i1⟩
  | _ => ⟨S2048x1024, .f32⟩

abbrev hbmTy0_3 (i : Nat) : BufTy := match i % 128 with
  | 0 => ⟨S16384x1024, .f32⟩
  | 1 => ⟨S16384x1024, .f32⟩
  | 2 => ⟨S16384x1024, .f32⟩
  | 3 => ⟨S16384x1024, .f32⟩
  | 4 => ⟨S16384x1024, .f32⟩
  | 5 => ⟨S16384x1024, .f32⟩
  | 6 => ⟨S16384x1024, .f32⟩
  | 7 => ⟨S16384x1024, .f32⟩
  | 8 => ⟨S16384x1024, .f32⟩
  | 9 => ⟨S16384x1024, .f32⟩
  | 10 => ⟨S16384x1024, .f32⟩
  | 11 => ⟨S16384x1024, .f32⟩
  | 12 => ⟨S16384x1024, .f32⟩
  | 13 => ⟨S16384x1024, .i1⟩
  | 14 => ⟨S16384x1024, .f32⟩
  | 15 => ⟨S16384x1024, .f32⟩
  | 16 => ⟨S16384x1024, .f32⟩
  | 17 => ⟨S16384x1024, .f32⟩
  | 18 => ⟨S16384x1024, .f32⟩
  | 19 => ⟨S16384x1024, .f32⟩
  | 20 => ⟨S16384x1024, .f32⟩
  | 21 => ⟨S16384x1024, .f32⟩
  | 22 => ⟨S16384x1024, .f32⟩
  | 23 => ⟨S16384x1024, .f32⟩
  | 24 => ⟨S16384x1024, .i1⟩
  | 25 => ⟨S16384x1024, .f32⟩
  | 26 => ⟨S16384x1024, .f32⟩
  | 27 => ⟨S16384x1024, .f32⟩
  | 28 => ⟨S16384x1024, .f32⟩
  | 29 => ⟨S16384x1024, .f32⟩
  | 30 => ⟨S16384x1024, .f32⟩
  | 31 => ⟨S16384x1024, .f32⟩
  | 32 => ⟨S16384x1024, .f32⟩
  | 33 => ⟨S_, .f32⟩
  | 34 => ⟨S16384, .f32⟩
  | 35 => ⟨S16384x1, .f32⟩
  | 36 => ⟨S16384x1024, .f32⟩
  | 37 => ⟨S16384x1024, .f32⟩
  | 38 => ⟨S16384x1024, .f32⟩
  | 39 => ⟨S_, .f32⟩
  | 40 => ⟨S16384, .f32⟩
  | 41 => ⟨S16384, .f32⟩
  | 42 => ⟨S16384, .f32⟩
  | 43 => ⟨S16384, .f32⟩
  | 44 => ⟨S16384, .f32⟩
  | 45 => ⟨S_, .f32⟩
  | 46 => ⟨S16384, .f32⟩
  | 47 => ⟨S16384, .i1⟩
  | 48 => ⟨S16384, .f32⟩
  | 49 => ⟨S_, .i32⟩
  | 50 => ⟨S16384, .i32⟩
  | 51 => ⟨S16384, .i32⟩
  | 52 => ⟨S16384, .i32⟩
  | 53 => ⟨S16384, .i32⟩
  | 54 => ⟨S_, .f32⟩
  | 55 => ⟨S16384, .f32⟩
  | 56 => ⟨S16384, .f32⟩
  | 57 => ⟨S_, .f32⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .i1⟩
  | 66 => ⟨S16384, .f32⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S_, .i32⟩
  | 75 => ⟨S16384, .i32⟩
  | 76 => ⟨S16384, .i32⟩
  | 77 => ⟨S_, .i32⟩
  | 78 => ⟨S16384, .i32⟩
  | 79 => ⟨S16384, .i32⟩
  | 80 => ⟨S16384, .i32⟩
  | 81 => ⟨S_, .i32⟩
  | 82 => ⟨S16384, .i32⟩
  | 83 => ⟨S16384, .i1⟩
  | 84 => ⟨S_, .i32⟩
  | 85 => ⟨S16384, .i32⟩
  | 86 => ⟨S16384, .i32⟩
  | 87 => ⟨S16384, .i32⟩
  | 88 => ⟨S16384x1, .i32⟩
  | 89 => ⟨S1, .i32⟩
  | 90 => ⟨S_, .i32⟩
  | 91 => ⟨S16384x1, .i32⟩
  | 92 => ⟨S16384x1, .i1⟩
  | 93 => ⟨S1x1, .i32⟩
  | 94 => ⟨S16384x1, .i32⟩
  | 95 => ⟨S16384x1, .i1⟩
  | 96 => ⟨S16384x1, .i1⟩
  | 97 => ⟨S_, .i1⟩
  | 98 => ⟨S16384, .i1⟩
  | 99 => ⟨S16384x2048, .f32⟩
  | 100 => ⟨S16384x2048, .i1⟩
  | 101 => ⟨S_, .f32⟩
  | 102 => ⟨S16384x2048, .f32⟩
  | 103 => ⟨S16384x2048, .f32⟩
  | 104 => ⟨S16384x2x1024, .f32⟩
  | 105 => ⟨S16384x1x1024, .f32⟩
  | 106 => ⟨S16384x1024, .f32⟩
  | 107 => ⟨S16384x1x1024, .f32⟩
  | 108 => ⟨S16384x1024, .f32⟩
  | 109 => ⟨S16384x1024, .f32⟩
  | 110 => ⟨S16384x1024, .f32⟩
  | 111 => ⟨S16384x1024, .f32⟩
  | 112 => ⟨S16384x1024, .f32⟩
  | 113 => ⟨S16384x1024, .i1⟩
  | 114 => ⟨S16384x1024, .f32⟩
  | 115 => ⟨S16384x1024, .f32⟩
  | 116 => ⟨S16384x1024, .f32⟩
  | 117 => ⟨S16384x1024, .f32⟩
  | 118 => ⟨S16384x1024, .f32⟩
  | 119 => ⟨S16384x1024, .f32⟩
  | 120 => ⟨S16384x1024, .f32⟩
  | 121 => ⟨S16384x1024, .f32⟩
  | 122 => ⟨S16384x1024, .f32⟩
  | 123 => ⟨S16384x1024, .f32⟩
  | 124 => ⟨S16384x1024, .f32⟩
  | 125 => ⟨S16384x1024, .f32⟩
  | 126 => ⟨S16384x1024, .f32⟩
  | 127 => ⟨S16384x1024, .i1⟩
  | _ => ⟨S2048x1024, .f32⟩

abbrev hbmTy0_4 (i : Nat) : BufTy := match i % 128 with
  | 0 => ⟨S16384x1024, .f32⟩
  | 1 => ⟨S16384x1024, .f32⟩
  | 2 => ⟨S16384x1024, .f32⟩
  | 3 => ⟨S16384x1024, .f32⟩
  | 4 => ⟨S16384x1024, .f32⟩
  | 5 => ⟨S16384x1024, .f32⟩
  | 6 => ⟨S16384x1024, .f32⟩
  | 7 => ⟨S16384x1024, .f32⟩
  | 8 => ⟨S16384x1024, .f32⟩
  | 9 => ⟨S16384x1024, .f32⟩
  | 10 => ⟨S16384x1024, .i1⟩
  | 11 => ⟨S16384x1024, .f32⟩
  | 12 => ⟨S16384x1024, .f32⟩
  | 13 => ⟨S16384x1024, .f32⟩
  | 14 => ⟨S16384x1024, .f32⟩
  | 15 => ⟨S16384x1024, .f32⟩
  | 16 => ⟨S16384x1024, .f32⟩
  | 17 => ⟨S16384x1024, .f32⟩
  | 18 => ⟨S16384x1024, .f32⟩
  | 19 => ⟨S_, .f32⟩
  | 20 => ⟨S16384, .f32⟩
  | 21 => ⟨S16384x1, .f32⟩
  | 22 => ⟨S16384x1024, .f32⟩
  | 23 => ⟨S16384x1024, .f32⟩
  | 24 => ⟨S16384x1024, .f32⟩
  | 25 => ⟨S_, .f32⟩
  | 26 => ⟨S16384, .f32⟩
  | 27 => ⟨S16384, .f32⟩
  | 28 => ⟨S16384, .f32⟩
  | 29 => ⟨S16384, .f32⟩
  | 30 => ⟨S16384, .f32⟩
  | 31 => ⟨S_, .f32⟩
  | 32 => ⟨S16384, .f32⟩
  | 33 => ⟨S16384, .i1⟩
  | 34 => ⟨S16384, .f32⟩
  | 35 => ⟨S_, .i32⟩
  | 36 => ⟨S16384, .i32⟩
  | 37 => ⟨S16384, .i32⟩
  | 38 => ⟨S16384, .i32⟩
  | 39 => ⟨S16384, .i32⟩
  | 40 => ⟨S_, .f32⟩
  | 41 => ⟨S16384, .f32⟩
  | 42 => ⟨S16384, .f32⟩
  | 43 => ⟨S_, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .i1⟩
  | 52 => ⟨S16384, .f32⟩
  | 53 => ⟨S16384, .f32⟩
  | 54 => ⟨S16384, .f32⟩
  | 55 => ⟨S16384, .f32⟩
  | 56 => ⟨S16384, .f32⟩
  | 57 => ⟨S16384, .f32⟩
  | 58 => ⟨S16384, .f32⟩
  | 59 => ⟨S16384, .f32⟩
  | 60 => ⟨S_, .i32⟩
  | 61 => ⟨S16384, .i32⟩
  | 62 => ⟨S16384, .i32⟩
  | 63 => ⟨S_, .i32⟩
  | 64 => ⟨S16384, .i32⟩
  | 65 => ⟨S16384, .i32⟩
  | 66 => ⟨S16384, .i32⟩
  | 67 => ⟨S_, .i32⟩
  | 68 => ⟨S16384, .i32⟩
  | 69 => ⟨S16384, .i1⟩
  | 70 => ⟨S_, .i32⟩
  | 71 => ⟨S16384, .i32⟩
  | 72 => ⟨S16384, .i32⟩
  | 73 => ⟨S16384, .i32⟩
  | 74 => ⟨S16384x1, .i32⟩
  | 75 => ⟨S1, .i32⟩
  | 76 => ⟨S_, .i32⟩
  | 77 => ⟨S16384x1, .i32⟩
  | 78 => ⟨S16384x1, .i1⟩
  | 79 => ⟨S1x1, .i32⟩
  | 80 => ⟨S16384x1, .i32⟩
  | 81 => ⟨S16384x1, .i1⟩
  | 82 => ⟨S16384x1, .i1⟩
  | 83 => ⟨S_, .i1⟩
  | 84 => ⟨S16384, .i1⟩
  | 85 => ⟨S16384x2048, .f32⟩
  | 86 => ⟨S16384x2048, .i1⟩
  | 87 => ⟨S_, .f32⟩
  | 88 => ⟨S16384x2048, .f32⟩
  | 89 => ⟨S16384x2048, .f32⟩
  | 90 => ⟨S16384x2x1024, .f32⟩
  | 91 => ⟨S16384x1x1024, .f32⟩
  | 92 => ⟨S16384x1024, .f32⟩
  | 93 => ⟨S16384x1x1024, .f32⟩
  | 94 => ⟨S16384x1024, .f32⟩
  | 95 => ⟨S16384x1024, .f32⟩
  | 96 => ⟨S16384x1024, .f32⟩
  | 97 => ⟨S16384x1024, .f32⟩
  | 98 => ⟨S16384x1024, .f32⟩
  | 99 => ⟨S16384x1024, .i1⟩
  | 100 => ⟨S16384x1024, .f32⟩
  | 101 => ⟨S16384x1024, .f32⟩
  | 102 => ⟨S16384x1024, .f32⟩
  | 103 => ⟨S16384x1024, .f32⟩
  | 104 => ⟨S16384x1024, .f32⟩
  | 105 => ⟨S16384x1024, .f32⟩
  | 106 => ⟨S16384x1024, .f32⟩
  | 107 => ⟨S16384x1024, .f32⟩
  | 108 => ⟨S16384x1024, .f32⟩
  | 109 => ⟨S16384x1024, .f32⟩
  | 110 => ⟨S16384x1024, .f32⟩
  | 111 => ⟨S16384x1024, .f32⟩
  | 112 => ⟨S16384x1024, .f32⟩
  | 113 => ⟨S16384x1024, .i1⟩
  | 114 => ⟨S16384x1024, .f32⟩
  | 115 => ⟨S16384x1024, .f32⟩
  | 116 => ⟨S16384x1024, .f32⟩
  | 117 => ⟨S16384x1024, .f32⟩
  | 118 => ⟨S16384x1024, .f32⟩
  | 119 => ⟨S16384x1024, .f32⟩
  | 120 => ⟨S16384x1024, .f32⟩
  | 121 => ⟨S16384x1024, .f32⟩
  | 122 => ⟨S16384x1024, .f32⟩
  | 123 => ⟨S16384x1024, .f32⟩
  | 124 => ⟨S16384x1024, .i1⟩
  | 125 => ⟨S16384x1024, .f32⟩
  | 126 => ⟨S16384x1024, .f32⟩
  | 127 => ⟨S16384x1024, .f32⟩
  | _ => ⟨S2048x1024, .f32⟩

abbrev hbmTy0_5 (i : Nat) : BufTy := match i % 128 with
  | 0 => ⟨S16384x1024, .f32⟩
  | 1 => ⟨S16384x1024, .f32⟩
  | 2 => ⟨S16384x1024, .f32⟩
  | 3 => ⟨S16384x1024, .f32⟩
  | 4 => ⟨S16384x1024, .f32⟩
  | 5 => ⟨S_, .f32⟩
  | 6 => ⟨S16384, .f32⟩
  | 7 => ⟨S16384x1, .f32⟩
  | 8 => ⟨S16384x1024, .f32⟩
  | 9 => ⟨S16384x1024, .f32⟩
  | 10 => ⟨S16384x1024, .f32⟩
  | 11 => ⟨S_, .f32⟩
  | 12 => ⟨S16384, .f32⟩
  | 13 => ⟨S16384, .f32⟩
  | 14 => ⟨S16384, .f32⟩
  | 15 => ⟨S16384, .f32⟩
  | 16 => ⟨S16384, .f32⟩
  | 17 => ⟨S_, .f32⟩
  | 18 => ⟨S16384, .f32⟩
  | 19 => ⟨S16384, .i1⟩
  | 20 => ⟨S16384, .f32⟩
  | 21 => ⟨S_, .i32⟩
  | 22 => ⟨S16384, .i32⟩
  | 23 => ⟨S16384, .i32⟩
  | 24 => ⟨S16384, .i32⟩
  | 25 => ⟨S16384, .i32⟩
  | 26 => ⟨S_, .f32⟩
  | 27 => ⟨S16384, .f32⟩
  | 28 => ⟨S16384, .f32⟩
  | 29 => ⟨S_, .f32⟩
  | 30 => ⟨S16384, .f32⟩
  | 31 => ⟨S16384, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .i1⟩
  | 38 => ⟨S16384, .f32⟩
  | 39 => ⟨S16384, .f32⟩
  | 40 => ⟨S16384, .f32⟩
  | 41 => ⟨S16384, .f32⟩
  | 42 => ⟨S16384, .f32⟩
  | 43 => ⟨S16384, .f32⟩
  | 44 => ⟨S16384, .f32⟩
  | 45 => ⟨S16384, .f32⟩
  | 46 => ⟨S_, .i32⟩
  | 47 => ⟨S16384, .i32⟩
  | 48 => ⟨S16384, .i32⟩
  | 49 => ⟨S_, .i32⟩
  | 50 => ⟨S16384, .i32⟩
  | 51 => ⟨S16384, .i32⟩
  | 52 => ⟨S16384, .i32⟩
  | 53 => ⟨S_, .i32⟩
  | 54 => ⟨S16384, .i32⟩
  | 55 => ⟨S16384, .i1⟩
  | 56 => ⟨S_, .i32⟩
  | 57 => ⟨S16384, .i32⟩
  | 58 => ⟨S16384, .i32⟩
  | 59 => ⟨S16384, .i32⟩
  | 60 => ⟨S16384x1, .i32⟩
  | 61 => ⟨S1, .i32⟩
  | 62 => ⟨S_, .i32⟩
  | 63 => ⟨S16384x1, .i32⟩
  | 64 => ⟨S16384x1, .i1⟩
  | 65 => ⟨S1x1, .i32⟩
  | 66 => ⟨S16384x1, .i32⟩
  | 67 => ⟨S16384x1, .i1⟩
  | 68 => ⟨S16384x1, .i1⟩
  | 69 => ⟨S_, .i1⟩
  | 70 => ⟨S16384, .i1⟩
  | 71 => ⟨S16384x2048, .f32⟩
  | 72 => ⟨S16384x2048, .i1⟩
  | 73 => ⟨S_, .f32⟩
  | 74 => ⟨S16384x2048, .f32⟩
  | 75 => ⟨S16384x2048, .f32⟩
  | 76 => ⟨S16384x2x1024, .f32⟩
  | 77 => ⟨S16384x1x1024, .f32⟩
  | 78 => ⟨S16384x1024, .f32⟩
  | 79 => ⟨S16384x1x1024, .f32⟩
  | 80 => ⟨S16384x1024, .f32⟩
  | 81 => ⟨S16384x1024, .f32⟩
  | 82 => ⟨S16384x1024, .f32⟩
  | 83 => ⟨S16384x1024, .f32⟩
  | 84 => ⟨S16384x1024, .f32⟩
  | 85 => ⟨S16384x1024, .i1⟩
  | 86 => ⟨S16384x1024, .f32⟩
  | 87 => ⟨S16384x1024, .f32⟩
  | 88 => ⟨S16384x1024, .f32⟩
  | 89 => ⟨S16384x1024, .f32⟩
  | 90 => ⟨S16384x1024, .f32⟩
  | 91 => ⟨S16384x1024, .f32⟩
  | 92 => ⟨S16384x1024, .f32⟩
  | 93 => ⟨S16384x1024, .f32⟩
  | 94 => ⟨S16384x1024, .f32⟩
  | 95 => ⟨S16384x1024, .f32⟩
  | 96 => ⟨S16384x1024, .f32⟩
  | 97 => ⟨S16384x1024, .f32⟩
  | 98 => ⟨S16384x1024, .f32⟩
  | 99 => ⟨S16384x1024, .i1⟩
  | 100 => ⟨S16384x1024, .f32⟩
  | 101 => ⟨S16384x1024, .f32⟩
  | 102 => ⟨S16384x1024, .f32⟩
  | 103 => ⟨S16384x1024, .f32⟩
  | 104 => ⟨S16384x1024, .f32⟩
  | 105 => ⟨S16384x1024, .f32⟩
  | 106 => ⟨S16384x1024, .f32⟩
  | 107 => ⟨S16384x1024, .f32⟩
  | 108 => ⟨S16384x1024, .f32⟩
  | 109 => ⟨S16384x1024, .f32⟩
  | 110 => ⟨S16384x1024, .i1⟩
  | 111 => ⟨S16384x1024, .f32⟩
  | 112 => ⟨S16384x1024, .f32⟩
  | 113 => ⟨S16384x1024, .f32⟩
  | 114 => ⟨S16384x1024, .f32⟩
  | 115 => ⟨S16384x1024, .f32⟩
  | 116 => ⟨S16384x1024, .f32⟩
  | 117 => ⟨S16384x1024, .f32⟩
  | 118 => ⟨S16384x1024, .f32⟩
  | 119 => ⟨S_, .f32⟩
  | 120 => ⟨S16384, .f32⟩
  | 121 => ⟨S16384x1, .f32⟩
  | 122 => ⟨S16384x1024, .f32⟩
  | 123 => ⟨S16384x1024, .f32⟩
  | 124 => ⟨S16384x1024, .f32⟩
  | 125 => ⟨S_, .f32⟩
  | 126 => ⟨S16384, .f32⟩
  | 127 => ⟨S16384, .f32⟩
  | _ => ⟨S2048x1024, .f32⟩

abbrev hbmTy0_6 (i : Nat) : BufTy := match i % 128 with
  | 0 => ⟨S16384, .f32⟩
  | 1 => ⟨S16384, .f32⟩
  | 2 => ⟨S16384, .f32⟩
  | 3 => ⟨S_, .f32⟩
  | 4 => ⟨S16384, .f32⟩
  | 5 => ⟨S16384, .i1⟩
  | 6 => ⟨S16384, .f32⟩
  | 7 => ⟨S_, .i32⟩
  | 8 => ⟨S16384, .i32⟩
  | 9 => ⟨S16384, .i32⟩
  | 10 => ⟨S16384, .i32⟩
  | 11 => ⟨S16384, .i32⟩
  | 12 => ⟨S_, .f32⟩
  | 13 => ⟨S16384, .f32⟩
  | 14 => ⟨S16384, .f32⟩
  | 15 => ⟨S_, .f32⟩
  | 16 => ⟨S16384, .f32⟩
  | 17 => ⟨S16384, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384, .i1⟩
  | 24 => ⟨S16384, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384, .f32⟩
  | 32 => ⟨S_, .i32⟩
  | 33 => ⟨S16384, .i32⟩
  | 34 => ⟨S16384, .i32⟩
  | 35 => ⟨S_, .i32⟩
  | 36 => ⟨S16384, .i32⟩
  | 37 => ⟨S16384, .i32⟩
  | 38 => ⟨S16384, .i32⟩
  | 39 => ⟨S_, .i32⟩
  | 40 => ⟨S16384, .i32⟩
  | 41 => ⟨S16384, .i1⟩
  | 42 => ⟨S_, .i32⟩
  | 43 => ⟨S16384, .i32⟩
  | 44 => ⟨S16384, .i32⟩
  | 45 => ⟨S16384, .i32⟩
  | 46 => ⟨S16384x1, .i32⟩
  | 47 => ⟨S1, .i32⟩
  | 48 => ⟨S_, .i32⟩
  | 49 => ⟨S16384x1, .i32⟩
  | 50 => ⟨S16384x1, .i1⟩
  | 51 => ⟨S1x1, .i32⟩
  | 52 => ⟨S16384x1, .i32⟩
  | 53 => ⟨S16384x1, .i1⟩
  | 54 => ⟨S16384x1, .i1⟩
  | 55 => ⟨S_, .i1⟩
  | 56 => ⟨S16384, .i1⟩
  | 57 => ⟨S16384x2048, .f32⟩
  | 58 => ⟨S16384x2048, .i1⟩
  | 59 => ⟨S_, .f32⟩
  | 60 => ⟨S16384x2048, .f32⟩
  | 61 => ⟨S16384x2048, .f32⟩
  | 62 => ⟨S16384x2x1024, .f32⟩
  | 63 => ⟨S16384x1x1024, .f32⟩
  | 64 => ⟨S16384x1024, .f32⟩
  | 65 => ⟨S16384x1x1024, .f32⟩
  | 66 => ⟨S16384x1024, .f32⟩
  | 67 => ⟨S16384x1024, .f32⟩
  | 68 => ⟨S16384x1024, .f32⟩
  | 69 => ⟨S16384x1024, .f32⟩
  | 70 => ⟨S16384x1024, .f32⟩
  | 71 => ⟨S16384x1024, .i1⟩
  | 72 => ⟨S16384x1024, .f32⟩
  | 73 => ⟨S16384x1024, .f32⟩
  | 74 => ⟨S16384x1024, .f32⟩
  | 75 => ⟨S16384x1024, .f32⟩
  | 76 => ⟨S16384x1024, .f32⟩
  | 77 => ⟨S16384x1024, .f32⟩
  | 78 => ⟨S16384x1024, .f32⟩
  | 79 => ⟨S16384x1024, .f32⟩
  | 80 => ⟨S16384x1024, .f32⟩
  | 81 => ⟨S16384x1024, .f32⟩
  | 82 => ⟨S16384x1024, .f32⟩
  | 83 => ⟨S16384x1024, .f32⟩
  | 84 => ⟨S16384x1024, .f32⟩
  | 85 => ⟨S16384x1024, .i1⟩
  | 86 => ⟨S16384x1024, .f32⟩
  | 87 => ⟨S16384x1024, .f32⟩
  | 88 => ⟨S16384x1024, .f32⟩
  | 89 => ⟨S16384x1024, .f32⟩
  | 90 => ⟨S16384x1024, .f32⟩
  | 91 => ⟨S16384x1024, .f32⟩
  | 92 => ⟨S16384x1024, .f32⟩
  | 93 => ⟨S16384x1024, .f32⟩
  | 94 => ⟨S16384x1024, .f32⟩
  | 95 => ⟨S16384x1024, .f32⟩
  | 96 => ⟨S16384x1024, .i1⟩
  | 97 => ⟨S16384x1024, .f32⟩
  | 98 => ⟨S16384x1024, .f32⟩
  | 99 => ⟨S16384x1024, .f32⟩
  | 100 => ⟨S16384x1024, .f32⟩
  | 101 => ⟨S16384x1024, .f32⟩
  | 102 => ⟨S16384x1024, .f32⟩
  | 103 => ⟨S16384x1024, .f32⟩
  | 104 => ⟨S16384x1024, .f32⟩
  | 105 => ⟨S_, .f32⟩
  | 106 => ⟨S16384, .f32⟩
  | 107 => ⟨S16384x1, .f32⟩
  | 108 => ⟨S16384x1024, .f32⟩
  | 109 => ⟨S16384x1024, .f32⟩
  | 110 => ⟨S16384x1024, .f32⟩
  | 111 => ⟨S_, .f32⟩
  | 112 => ⟨S16384, .f32⟩
  | 113 => ⟨S16384, .f32⟩
  | 114 => ⟨S16384, .f32⟩
  | 115 => ⟨S16384, .f32⟩
  | 116 => ⟨S16384, .f32⟩
  | 117 => ⟨S_, .f32⟩
  | 118 => ⟨S16384, .f32⟩
  | 119 => ⟨S16384, .i1⟩
  | 120 => ⟨S16384, .f32⟩
  | 121 => ⟨S_, .i32⟩
  | 122 => ⟨S16384, .i32⟩
  | 123 => ⟨S16384, .i32⟩
  | 124 => ⟨S16384, .i32⟩
  | 125 => ⟨S16384, .i32⟩
  | 126 => ⟨S_, .f32⟩
  | 127 => ⟨S16384, .f32⟩
  | _ => ⟨S2048x1024, .f32⟩

abbrev hbmTy0_7 (i : Nat) : BufTy := match i % 128 with
  | 0 => ⟨S16384, .f32⟩
  | 1 => ⟨S_, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S16384, .f32⟩
  | 9 => ⟨S16384, .i1⟩
  | 10 => ⟨S16384, .f32⟩
  | 11 => ⟨S16384, .f32⟩
  | 12 => ⟨S16384, .f32⟩
  | 13 => ⟨S16384, .f32⟩
  | 14 => ⟨S16384, .f32⟩
  | 15 => ⟨S16384, .f32⟩
  | 16 => ⟨S16384, .f32⟩
  | 17 => ⟨S16384, .f32⟩
  | 18 => ⟨S_, .i32⟩
  | 19 => ⟨S16384, .i32⟩
  | 20 => ⟨S16384, .i32⟩
  | 21 => ⟨S16384, .i32⟩
  | 22 => ⟨S_, .i32⟩
  | 23 => ⟨S16384, .i32⟩
  | 24 => ⟨S16384, .i1⟩
  | 25 => ⟨S_, .i32⟩
  | 26 => ⟨S16384, .i32⟩
  | 27 => ⟨S16384, .i32⟩
  | 28 => ⟨S16384, .i32⟩
  | 29 => ⟨S16384x1, .i32⟩
  | 30 => ⟨S1, .i32⟩
  | 31 => ⟨S_, .i32⟩
  | 32 => ⟨S16384x1, .i32⟩
  | 33 => ⟨S16384x1, .i1⟩
  | 34 => ⟨S1x1, .i32⟩
  | 35 => ⟨S16384x1, .i32⟩
  | 36 => ⟨S16384x1, .i1⟩
  | 37 => ⟨S16384x1, .i1⟩
  | 38 => ⟨S_, .i1⟩
  | 39 => ⟨S16384, .i1⟩
  | 40 => ⟨S16384x1024, .f32⟩
  | 41 => ⟨S16384x1024, .i1⟩
  | 42 => ⟨S_, .f32⟩
  | 43 => ⟨S16384x1024, .f32⟩
  | 44 => ⟨S16384x1024, .f32⟩
  | 45 => ⟨S2048x8, .f32⟩
  | 46 => ⟨S2048x8, .f32⟩
  | 47 => ⟨S_, .f32⟩
  | 48 => ⟨S2048, .f32⟩
  | 49 => ⟨S2048x1, .f32⟩
  | 50 => ⟨S2048x8, .f32⟩
  | 51 => ⟨S2048x8, .f32⟩
  | 52 => ⟨S2048x8, .f32⟩
  | 53 => ⟨S_, .f32⟩
  | 54 => ⟨S2048, .f32⟩
  | 55 => ⟨S2048, .f32⟩
  | 56 => ⟨S2048, .f32⟩
  | 57 => ⟨S2048, .f32⟩
  | 58 => ⟨S2048, .f32⟩
  | _ => ⟨S2048x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_2 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_3 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_4 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_5 : Ref sig .tc := ⟨.hbm, 109, rfl⟩
abbrev main_v76 : Ref sig .tc := ⟨.hbm, 110, rfl⟩
abbrev main_v77 : Ref sig .tc := ⟨.hbm, 111, rfl⟩
abbrev main_cst_6 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_c_7 : Ref sig .tc := ⟨.hbm, 116, rfl⟩
abbrev main_v81 : Ref sig .tc := ⟨.hbm, 117, rfl⟩
abbrev main_v82 : Ref sig .tc := ⟨.hbm, 118, rfl⟩
abbrev main_c_8 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_call1_c : Ref sig .tc := ⟨.hbm, 123, rfl⟩
abbrev main_call1_v0 : Ref sig .tc := ⟨.hbm, 124, rfl⟩
abbrev main_call1_v1 : Ref sig .tc := ⟨.hbm, 125, rfl⟩
abbrev main_call1_c_0 : Ref sig .tc := ⟨.hbm, 126, rfl⟩
abbrev main_call1_v2 : Ref sig .tc := ⟨.hbm, 127, rfl⟩
abbrev main_call1_v3 : Ref sig .tc := ⟨.hbm, 128, rfl⟩
abbrev main_call1_v4 : Ref sig .tc := ⟨.hbm, 129, rfl⟩
abbrev main_call1_v5 : Ref sig .tc := ⟨.hbm, 130, rfl⟩
abbrev main_call1_c_1 : Ref sig .tc := ⟨.hbm, 131, rfl⟩
abbrev main_call1_c_2 : Ref sig .tc := ⟨.hbm, 132, rfl⟩
abbrev main_call1_v6 : Ref sig .tc := ⟨.hbm, 133, rfl⟩
abbrev main_call1_v7 : Ref sig .tc := ⟨.hbm, 134, rfl⟩
abbrev main_call1_v8 : Ref sig .tc := ⟨.hbm, 135, rfl⟩
abbrev main_call1_v9 : Ref sig .tc := ⟨.hbm, 136, rfl⟩
abbrev main_call1_v10 : Ref sig .tc := ⟨.hbm, 137, rfl⟩
abbrev main_call1_v11 : Ref sig .tc := ⟨.hbm, 138, rfl⟩
abbrev main_call1_c_3 : Ref sig .tc := ⟨.hbm, 139, rfl⟩
abbrev main_call1_v12 : Ref sig .tc := ⟨.hbm, 140, rfl⟩
abbrev main_call1_v13 : Ref sig .tc := ⟨.hbm, 141, rfl⟩
abbrev main_call1_v14 : Ref sig .tc := ⟨.hbm, 142, rfl⟩
abbrev main_call1_cst : Ref sig .tc := ⟨.hbm, 143, rfl⟩
abbrev main_call1_v15 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_cst_9 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_cst_10 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_cst_11 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_c_12 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_cst_13 : Ref sig .tc := ⟨.hbm, 210, rfl⟩
abbrev main_v147 : Ref sig .tc := ⟨.hbm, 211, rfl⟩
abbrev main_v148 : Ref sig .tc := ⟨.hbm, 212, rfl⟩
abbrev main_cst_14 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_c_15 : Ref sig .tc := ⟨.hbm, 230, rfl⟩
abbrev main_v165 : Ref sig .tc := ⟨.hbm, 231, rfl⟩
abbrev main_v166 : Ref sig .tc := ⟨.hbm, 232, rfl⟩
abbrev main_c_16 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_call2_c : Ref sig .tc := ⟨.hbm, 237, rfl⟩
abbrev main_call2_v0 : Ref sig .tc := ⟨.hbm, 238, rfl⟩
abbrev main_call2_v1 : Ref sig .tc := ⟨.hbm, 239, rfl⟩
abbrev main_call2_c_0 : Ref sig .tc := ⟨.hbm, 240, rfl⟩
abbrev main_call2_v2 : Ref sig .tc := ⟨.hbm, 241, rfl⟩
abbrev main_call2_v3 : Ref sig .tc := ⟨.hbm, 242, rfl⟩
abbrev main_call2_v4 : Ref sig .tc := ⟨.hbm, 243, rfl⟩
abbrev main_call2_v5 : Ref sig .tc := ⟨.hbm, 244, rfl⟩
abbrev main_call2_c_1 : Ref sig .tc := ⟨.hbm, 245, rfl⟩
abbrev main_call2_c_2 : Ref sig .tc := ⟨.hbm, 246, rfl⟩
abbrev main_call2_v6 : Ref sig .tc := ⟨.hbm, 247, rfl⟩
abbrev main_call2_v7 : Ref sig .tc := ⟨.hbm, 248, rfl⟩
abbrev main_call2_v8 : Ref sig .tc := ⟨.hbm, 249, rfl⟩
abbrev main_call2_v9 : Ref sig .tc := ⟨.hbm, 250, rfl⟩
abbrev main_call2_v10 : Ref sig .tc := ⟨.hbm, 251, rfl⟩
abbrev main_call2_v11 : Ref sig .tc := ⟨.hbm, 252, rfl⟩
abbrev main_call2_c_3 : Ref sig .tc := ⟨.hbm, 253, rfl⟩
abbrev main_call2_v12 : Ref sig .tc := ⟨.hbm, 254, rfl⟩
abbrev main_call2_v13 : Ref sig .tc := ⟨.hbm, 255, rfl⟩
abbrev main_call2_v14 : Ref sig .tc := ⟨.hbm, 256, rfl⟩
abbrev main_call2_cst : Ref sig .tc := ⟨.hbm, 257, rfl⟩
abbrev main_call2_v15 : Ref sig .tc := ⟨.hbm, 258, rfl⟩
abbrev main_v170 : Ref sig .tc := ⟨.hbm, 259, rfl⟩
abbrev main_v171 : Ref sig .tc := ⟨.hbm, 260, rfl⟩
abbrev main_v172 : Ref sig .tc := ⟨.hbm, 261, rfl⟩
abbrev main_v173 : Ref sig .tc := ⟨.hbm, 262, rfl⟩
abbrev main_v174 : Ref sig .tc := ⟨.hbm, 263, rfl⟩
abbrev main_v175 : Ref sig .tc := ⟨.hbm, 264, rfl⟩
abbrev main_v176 : Ref sig .tc := ⟨.hbm, 265, rfl⟩
abbrev main_v177 : Ref sig .tc := ⟨.hbm, 266, rfl⟩
abbrev main_v178 : Ref sig .tc := ⟨.hbm, 267, rfl⟩
abbrev main_v179 : Ref sig .tc := ⟨.hbm, 268, rfl⟩
abbrev main_v180 : Ref sig .tc := ⟨.hbm, 269, rfl⟩
abbrev main_v181 : Ref sig .tc := ⟨.hbm, 270, rfl⟩
abbrev main_v182 : Ref sig .tc := ⟨.hbm, 271, rfl⟩
abbrev main_v183 : Ref sig .tc := ⟨.hbm, 272, rfl⟩
abbrev main_v184 : Ref sig .tc := ⟨.hbm, 273, rfl⟩
abbrev main_v185 : Ref sig .tc := ⟨.hbm, 274, rfl⟩
abbrev main_v186 : Ref sig .tc := ⟨.hbm, 275, rfl⟩
abbrev main_v187 : Ref sig .tc := ⟨.hbm, 276, rfl⟩
abbrev main_v188 : Ref sig .tc := ⟨.hbm, 277, rfl⟩
abbrev main_v189 : Ref sig .tc := ⟨.hbm, 278, rfl⟩
abbrev main_v190 : Ref sig .tc := ⟨.hbm, 279, rfl⟩
abbrev main_v191 : Ref sig .tc := ⟨.hbm, 280, rfl⟩
abbrev main_v192 : Ref sig .tc := ⟨.hbm, 281, rfl⟩
abbrev main_v193 : Ref sig .tc := ⟨.hbm, 282, rfl⟩
abbrev main_v194 : Ref sig .tc := ⟨.hbm, 283, rfl⟩
abbrev main_v195 : Ref sig .tc := ⟨.hbm, 284, rfl⟩
abbrev main_v196 : Ref sig .tc := ⟨.hbm, 285, rfl⟩
abbrev main_v197 : Ref sig .tc := ⟨.hbm, 286, rfl⟩
abbrev main_v198 : Ref sig .tc := ⟨.hbm, 287, rfl⟩
abbrev main_v199 : Ref sig .tc := ⟨.hbm, 288, rfl⟩
abbrev main_v200 : Ref sig .tc := ⟨.hbm, 289, rfl⟩
abbrev main_v201 : Ref sig .tc := ⟨.hbm, 290, rfl⟩
abbrev main_v202 : Ref sig .tc := ⟨.hbm, 291, rfl⟩
abbrev main_v203 : Ref sig .tc := ⟨.hbm, 292, rfl⟩
abbrev main_v204 : Ref sig .tc := ⟨.hbm, 293, rfl⟩
abbrev main_v205 : Ref sig .tc := ⟨.hbm, 294, rfl⟩
abbrev main_v206 : Ref sig .tc := ⟨.hbm, 295, rfl⟩
abbrev main_v207 : Ref sig .tc := ⟨.hbm, 296, rfl⟩
abbrev main_v208 : Ref sig .tc := ⟨.hbm, 297, rfl⟩
abbrev main_v209 : Ref sig .tc := ⟨.hbm, 298, rfl⟩
abbrev main_v210 : Ref sig .tc := ⟨.hbm, 299, rfl⟩
abbrev main_v211 : Ref sig .tc := ⟨.hbm, 300, rfl⟩
abbrev main_v212 : Ref sig .tc := ⟨.hbm, 301, rfl⟩
abbrev main_v213 : Ref sig .tc := ⟨.hbm, 302, rfl⟩
abbrev main_cst_17 : Ref sig .tc := ⟨.hbm, 303, rfl⟩
abbrev main_v214 : Ref sig .tc := ⟨.hbm, 304, rfl⟩
abbrev main_v215 : Ref sig .tc := ⟨.hbm, 305, rfl⟩
abbrev main_v216 : Ref sig .tc := ⟨.hbm, 306, rfl⟩
abbrev main_v217 : Ref sig .tc := ⟨.hbm, 307, rfl⟩
abbrev main_v218 : Ref sig .tc := ⟨.hbm, 308, rfl⟩
abbrev main_cst_18 : Ref sig .tc := ⟨.hbm, 309, rfl⟩
abbrev main_v219 : Ref sig .tc := ⟨.hbm, 310, rfl⟩
abbrev main_v220 : Ref sig .tc := ⟨.hbm, 311, rfl⟩
abbrev main_v221 : Ref sig .tc := ⟨.hbm, 312, rfl⟩
abbrev main_v222 : Ref sig .tc := ⟨.hbm, 313, rfl⟩
abbrev main_v223 : Ref sig .tc := ⟨.hbm, 314, rfl⟩
abbrev main_cst_19 : Ref sig .tc := ⟨.hbm, 315, rfl⟩
abbrev main_v224 : Ref sig .tc := ⟨.hbm, 316, rfl⟩
abbrev main_v225 : Ref sig .tc := ⟨.hbm, 317, rfl⟩
abbrev main_v226 : Ref sig .tc := ⟨.hbm, 318, rfl⟩
abbrev main_c_20 : Ref sig .tc := ⟨.hbm, 319, rfl⟩
abbrev main_v227 : Ref sig .tc := ⟨.hbm, 320, rfl⟩
abbrev main_v228 : Ref sig .tc := ⟨.hbm, 321, rfl⟩
abbrev main_v229 : Ref sig .tc := ⟨.hbm, 322, rfl⟩
abbrev main_v230 : Ref sig .tc := ⟨.hbm, 323, rfl⟩
abbrev main_cst_21 : Ref sig .tc := ⟨.hbm, 324, rfl⟩
abbrev main_v231 : Ref sig .tc := ⟨.hbm, 325, rfl⟩
abbrev main_v232 : Ref sig .tc := ⟨.hbm, 326, rfl⟩
abbrev main_cst_22 : Ref sig .tc := ⟨.hbm, 327, rfl⟩
abbrev main_v233 : Ref sig .tc := ⟨.hbm, 328, rfl⟩
abbrev main_v234 : Ref sig .tc := ⟨.hbm, 329, rfl⟩
abbrev main_v235 : Ref sig .tc := ⟨.hbm, 330, rfl⟩
abbrev main_v236 : Ref sig .tc := ⟨.hbm, 331, rfl⟩
abbrev main_v237 : Ref sig .tc := ⟨.hbm, 332, rfl⟩
abbrev main_v238 : Ref sig .tc := ⟨.hbm, 333, rfl⟩
abbrev main_v239 : Ref sig .tc := ⟨.hbm, 334, rfl⟩
abbrev main_v240 : Ref sig .tc := ⟨.hbm, 335, rfl⟩
abbrev main_v241 : Ref sig .tc := ⟨.hbm, 336, rfl⟩
abbrev main_v242 : Ref sig .tc := ⟨.hbm, 337, rfl⟩
abbrev main_v243 : Ref sig .tc := ⟨.hbm, 338, rfl⟩
abbrev main_v244 : Ref sig .tc := ⟨.hbm, 339, rfl⟩
abbrev main_v245 : Ref sig .tc := ⟨.hbm, 340, rfl⟩
abbrev main_v246 : Ref sig .tc := ⟨.hbm, 341, rfl⟩
abbrev main_v247 : Ref sig .tc := ⟨.hbm, 342, rfl⟩
abbrev main_v248 : Ref sig .tc := ⟨.hbm, 343, rfl⟩
abbrev main_c_23 : Ref sig .tc := ⟨.hbm, 344, rfl⟩
abbrev main_v249 : Ref sig .tc := ⟨.hbm, 345, rfl⟩
abbrev main_v250 : Ref sig .tc := ⟨.hbm, 346, rfl⟩
abbrev main_c_24 : Ref sig .tc := ⟨.hbm, 347, rfl⟩
abbrev main_v251 : Ref sig .tc := ⟨.hbm, 348, rfl⟩
abbrev main_v252 : Ref sig .tc := ⟨.hbm, 349, rfl⟩
abbrev main_v253 : Ref sig .tc := ⟨.hbm, 350, rfl⟩
abbrev main_call3_c : Ref sig .tc := ⟨.hbm, 351, rfl⟩
abbrev main_call3_v0 : Ref sig .tc := ⟨.hbm, 352, rfl⟩
abbrev main_call3_v1 : Ref sig .tc := ⟨.hbm, 353, rfl⟩
abbrev main_call3_c_0 : Ref sig .tc := ⟨.hbm, 354, rfl⟩
abbrev main_call3_v2 : Ref sig .tc := ⟨.hbm, 355, rfl⟩
abbrev main_call3_v3 : Ref sig .tc := ⟨.hbm, 356, rfl⟩
abbrev main_call3_v4 : Ref sig .tc := ⟨.hbm, 357, rfl⟩
abbrev main_call3_v5 : Ref sig .tc := ⟨.hbm, 358, rfl⟩
abbrev main_call3_c_1 : Ref sig .tc := ⟨.hbm, 359, rfl⟩
abbrev main_call3_c_2 : Ref sig .tc := ⟨.hbm, 360, rfl⟩
abbrev main_call3_v6 : Ref sig .tc := ⟨.hbm, 361, rfl⟩
abbrev main_call3_v7 : Ref sig .tc := ⟨.hbm, 362, rfl⟩
abbrev main_call3_v8 : Ref sig .tc := ⟨.hbm, 363, rfl⟩
abbrev main_call3_v9 : Ref sig .tc := ⟨.hbm, 364, rfl⟩
abbrev main_call3_v10 : Ref sig .tc := ⟨.hbm, 365, rfl⟩
abbrev main_call3_v11 : Ref sig .tc := ⟨.hbm, 366, rfl⟩
abbrev main_call3_c_3 : Ref sig .tc := ⟨.hbm, 367, rfl⟩
abbrev main_call3_v12 : Ref sig .tc := ⟨.hbm, 368, rfl⟩
abbrev main_call3_v13 : Ref sig .tc := ⟨.hbm, 369, rfl⟩
abbrev main_call3_v14 : Ref sig .tc := ⟨.hbm, 370, rfl⟩
abbrev main_call3_cst : Ref sig .tc := ⟨.hbm, 371, rfl⟩
abbrev main_call3_v15 : Ref sig .tc := ⟨.hbm, 372, rfl⟩
abbrev main_v254 : Ref sig .tc := ⟨.hbm, 373, rfl⟩
abbrev main_v255 : Ref sig .tc := ⟨.hbm, 374, rfl⟩
abbrev main_v256 : Ref sig .tc := ⟨.hbm, 375, rfl⟩
abbrev main_v257 : Ref sig .tc := ⟨.hbm, 376, rfl⟩
abbrev main_v258 : Ref sig .tc := ⟨.hbm, 377, rfl⟩
abbrev main_v259 : Ref sig .tc := ⟨.hbm, 378, rfl⟩
abbrev main_v260 : Ref sig .tc := ⟨.hbm, 379, rfl⟩
abbrev main_v261 : Ref sig .tc := ⟨.hbm, 380, rfl⟩
abbrev main_v262 : Ref sig .tc := ⟨.hbm, 381, rfl⟩
abbrev main_v263 : Ref sig .tc := ⟨.hbm, 382, rfl⟩
abbrev main_v264 : Ref sig .tc := ⟨.hbm, 383, rfl⟩
abbrev main_v265 : Ref sig .tc := ⟨.hbm, 384, rfl⟩
abbrev main_v266 : Ref sig .tc := ⟨.hbm, 385, rfl⟩
abbrev main_v267 : Ref sig .tc := ⟨.hbm, 386, rfl⟩
abbrev main_v268 : Ref sig .tc := ⟨.hbm, 387, rfl⟩
abbrev main_v269 : Ref sig .tc := ⟨.hbm, 388, rfl⟩
abbrev main_v270 : Ref sig .tc := ⟨.hbm, 389, rfl⟩
abbrev main_v271 : Ref sig .tc := ⟨.hbm, 390, rfl⟩
abbrev main_v272 : Ref sig .tc := ⟨.hbm, 391, rfl⟩
abbrev main_v273 : Ref sig .tc := ⟨.hbm, 392, rfl⟩
abbrev main_v274 : Ref sig .tc := ⟨.hbm, 393, rfl⟩
abbrev main_v275 : Ref sig .tc := ⟨.hbm, 394, rfl⟩
abbrev main_v276 : Ref sig .tc := ⟨.hbm, 395, rfl⟩
abbrev main_v277 : Ref sig .tc := ⟨.hbm, 396, rfl⟩
abbrev main_v278 : Ref sig .tc := ⟨.hbm, 397, rfl⟩
abbrev main_v279 : Ref sig .tc := ⟨.hbm, 398, rfl⟩
abbrev main_v280 : Ref sig .tc := ⟨.hbm, 399, rfl⟩
abbrev main_v281 : Ref sig .tc := ⟨.hbm, 400, rfl⟩
abbrev main_v282 : Ref sig .tc := ⟨.hbm, 401, rfl⟩
abbrev main_v283 : Ref sig .tc := ⟨.hbm, 402, rfl⟩
abbrev main_v284 : Ref sig .tc := ⟨.hbm, 403, rfl⟩
abbrev main_v285 : Ref sig .tc := ⟨.hbm, 404, rfl⟩
abbrev main_v286 : Ref sig .tc := ⟨.hbm, 405, rfl⟩
abbrev main_v287 : Ref sig .tc := ⟨.hbm, 406, rfl⟩
abbrev main_v288 : Ref sig .tc := ⟨.hbm, 407, rfl⟩
abbrev main_v289 : Ref sig .tc := ⟨.hbm, 408, rfl⟩
abbrev main_v290 : Ref sig .tc := ⟨.hbm, 409, rfl⟩
abbrev main_v291 : Ref sig .tc := ⟨.hbm, 410, rfl⟩
abbrev main_v292 : Ref sig .tc := ⟨.hbm, 411, rfl⟩
abbrev main_v293 : Ref sig .tc := ⟨.hbm, 412, rfl⟩
abbrev main_v294 : Ref sig .tc := ⟨.hbm, 413, rfl⟩
abbrev main_v295 : Ref sig .tc := ⟨.hbm, 414, rfl⟩
abbrev main_v296 : Ref sig .tc := ⟨.hbm, 415, rfl⟩
abbrev main_v297 : Ref sig .tc := ⟨.hbm, 416, rfl⟩
abbrev main_cst_25 : Ref sig .tc := ⟨.hbm, 417, rfl⟩
abbrev main_v298 : Ref sig .tc := ⟨.hbm, 418, rfl⟩
abbrev main_v299 : Ref sig .tc := ⟨.hbm, 419, rfl⟩
abbrev main_v300 : Ref sig .tc := ⟨.hbm, 420, rfl⟩
abbrev main_v301 : Ref sig .tc := ⟨.hbm, 421, rfl⟩
abbrev main_v302 : Ref sig .tc := ⟨.hbm, 422, rfl⟩
abbrev main_cst_26 : Ref sig .tc := ⟨.hbm, 423, rfl⟩
abbrev main_v303 : Ref sig .tc := ⟨.hbm, 424, rfl⟩
abbrev main_v304 : Ref sig .tc := ⟨.hbm, 425, rfl⟩
abbrev main_v305 : Ref sig .tc := ⟨.hbm, 426, rfl⟩
abbrev main_v306 : Ref sig .tc := ⟨.hbm, 427, rfl⟩
abbrev main_v307 : Ref sig .tc := ⟨.hbm, 428, rfl⟩
abbrev main_cst_27 : Ref sig .tc := ⟨.hbm, 429, rfl⟩
abbrev main_v308 : Ref sig .tc := ⟨.hbm, 430, rfl⟩
abbrev main_v309 : Ref sig .tc := ⟨.hbm, 431, rfl⟩
abbrev main_v310 : Ref sig .tc := ⟨.hbm, 432, rfl⟩
abbrev main_c_28 : Ref sig .tc := ⟨.hbm, 433, rfl⟩
abbrev main_v311 : Ref sig .tc := ⟨.hbm, 434, rfl⟩
abbrev main_v312 : Ref sig .tc := ⟨.hbm, 435, rfl⟩
abbrev main_v313 : Ref sig .tc := ⟨.hbm, 436, rfl⟩
abbrev main_v314 : Ref sig .tc := ⟨.hbm, 437, rfl⟩
abbrev main_cst_29 : Ref sig .tc := ⟨.hbm, 438, rfl⟩
abbrev main_v315 : Ref sig .tc := ⟨.hbm, 439, rfl⟩
abbrev main_v316 : Ref sig .tc := ⟨.hbm, 440, rfl⟩
abbrev main_cst_30 : Ref sig .tc := ⟨.hbm, 441, rfl⟩
abbrev main_v317 : Ref sig .tc := ⟨.hbm, 442, rfl⟩
abbrev main_v318 : Ref sig .tc := ⟨.hbm, 443, rfl⟩
abbrev main_v319 : Ref sig .tc := ⟨.hbm, 444, rfl⟩
abbrev main_v320 : Ref sig .tc := ⟨.hbm, 445, rfl⟩
abbrev main_v321 : Ref sig .tc := ⟨.hbm, 446, rfl⟩
abbrev main_v322 : Ref sig .tc := ⟨.hbm, 447, rfl⟩
abbrev main_v323 : Ref sig .tc := ⟨.hbm, 448, rfl⟩
abbrev main_v324 : Ref sig .tc := ⟨.hbm, 449, rfl⟩
abbrev main_v325 : Ref sig .tc := ⟨.hbm, 450, rfl⟩
abbrev main_v326 : Ref sig .tc := ⟨.hbm, 451, rfl⟩
abbrev main_v327 : Ref sig .tc := ⟨.hbm, 452, rfl⟩
abbrev main_v328 : Ref sig .tc := ⟨.hbm, 453, rfl⟩
abbrev main_v329 : Ref sig .tc := ⟨.hbm, 454, rfl⟩
abbrev main_v330 : Ref sig .tc := ⟨.hbm, 455, rfl⟩
abbrev main_v331 : Ref sig .tc := ⟨.hbm, 456, rfl⟩
abbrev main_v332 : Ref sig .tc := ⟨.hbm, 457, rfl⟩
abbrev main_c_31 : Ref sig .tc := ⟨.hbm, 458, rfl⟩
abbrev main_v333 : Ref sig .tc := ⟨.hbm, 459, rfl⟩
abbrev main_v334 : Ref sig .tc := ⟨.hbm, 460, rfl⟩
abbrev main_c_32 : Ref sig .tc := ⟨.hbm, 461, rfl⟩
abbrev main_v335 : Ref sig .tc := ⟨.hbm, 462, rfl⟩
abbrev main_v336 : Ref sig .tc := ⟨.hbm, 463, rfl⟩
abbrev main_v337 : Ref sig .tc := ⟨.hbm, 464, rfl⟩
abbrev main_call4_c : Ref sig .tc := ⟨.hbm, 465, rfl⟩
abbrev main_call4_v0 : Ref sig .tc := ⟨.hbm, 466, rfl⟩
abbrev main_call4_v1 : Ref sig .tc := ⟨.hbm, 467, rfl⟩
abbrev main_call4_c_0 : Ref sig .tc := ⟨.hbm, 468, rfl⟩
abbrev main_call4_v2 : Ref sig .tc := ⟨.hbm, 469, rfl⟩
abbrev main_call4_v3 : Ref sig .tc := ⟨.hbm, 470, rfl⟩
abbrev main_call4_v4 : Ref sig .tc := ⟨.hbm, 471, rfl⟩
abbrev main_call4_v5 : Ref sig .tc := ⟨.hbm, 472, rfl⟩
abbrev main_call4_c_1 : Ref sig .tc := ⟨.hbm, 473, rfl⟩
abbrev main_call4_c_2 : Ref sig .tc := ⟨.hbm, 474, rfl⟩
abbrev main_call4_v6 : Ref sig .tc := ⟨.hbm, 475, rfl⟩
abbrev main_call4_v7 : Ref sig .tc := ⟨.hbm, 476, rfl⟩
abbrev main_call4_v8 : Ref sig .tc := ⟨.hbm, 477, rfl⟩
abbrev main_call4_v9 : Ref sig .tc := ⟨.hbm, 478, rfl⟩
abbrev main_call4_v10 : Ref sig .tc := ⟨.hbm, 479, rfl⟩
abbrev main_call4_v11 : Ref sig .tc := ⟨.hbm, 480, rfl⟩
abbrev main_call4_c_3 : Ref sig .tc := ⟨.hbm, 481, rfl⟩
abbrev main_call4_v12 : Ref sig .tc := ⟨.hbm, 482, rfl⟩
abbrev main_call4_v13 : Ref sig .tc := ⟨.hbm, 483, rfl⟩
abbrev main_call4_v14 : Ref sig .tc := ⟨.hbm, 484, rfl⟩
abbrev main_call4_cst : Ref sig .tc := ⟨.hbm, 485, rfl⟩
abbrev main_call4_v15 : Ref sig .tc := ⟨.hbm, 486, rfl⟩
abbrev main_v338 : Ref sig .tc := ⟨.hbm, 487, rfl⟩
abbrev main_v339 : Ref sig .tc := ⟨.hbm, 488, rfl⟩
abbrev main_v340 : Ref sig .tc := ⟨.hbm, 489, rfl⟩
abbrev main_v341 : Ref sig .tc := ⟨.hbm, 490, rfl⟩
abbrev main_v342 : Ref sig .tc := ⟨.hbm, 491, rfl⟩
abbrev main_v343 : Ref sig .tc := ⟨.hbm, 492, rfl⟩
abbrev main_v344 : Ref sig .tc := ⟨.hbm, 493, rfl⟩
abbrev main_v345 : Ref sig .tc := ⟨.hbm, 494, rfl⟩
abbrev main_v346 : Ref sig .tc := ⟨.hbm, 495, rfl⟩
abbrev main_v347 : Ref sig .tc := ⟨.hbm, 496, rfl⟩
abbrev main_v348 : Ref sig .tc := ⟨.hbm, 497, rfl⟩
abbrev main_v349 : Ref sig .tc := ⟨.hbm, 498, rfl⟩
abbrev main_v350 : Ref sig .tc := ⟨.hbm, 499, rfl⟩
abbrev main_v351 : Ref sig .tc := ⟨.hbm, 500, rfl⟩
abbrev main_v352 : Ref sig .tc := ⟨.hbm, 501, rfl⟩
abbrev main_v353 : Ref sig .tc := ⟨.hbm, 502, rfl⟩
abbrev main_v354 : Ref sig .tc := ⟨.hbm, 503, rfl⟩
abbrev main_v355 : Ref sig .tc := ⟨.hbm, 504, rfl⟩
abbrev main_v356 : Ref sig .tc := ⟨.hbm, 505, rfl⟩
abbrev main_v357 : Ref sig .tc := ⟨.hbm, 506, rfl⟩
abbrev main_v358 : Ref sig .tc := ⟨.hbm, 507, rfl⟩
abbrev main_v359 : Ref sig .tc := ⟨.hbm, 508, rfl⟩
abbrev main_v360 : Ref sig .tc := ⟨.hbm, 509, rfl⟩
abbrev main_v361 : Ref sig .tc := ⟨.hbm, 510, rfl⟩
abbrev main_v362 : Ref sig .tc := ⟨.hbm, 511, rfl⟩
abbrev main_v363 : Ref sig .tc := ⟨.hbm, 512, rfl⟩
abbrev main_v364 : Ref sig .tc := ⟨.hbm, 513, rfl⟩
abbrev main_v365 : Ref sig .tc := ⟨.hbm, 514, rfl⟩
abbrev main_v366 : Ref sig .tc := ⟨.hbm, 515, rfl⟩
abbrev main_v367 : Ref sig .tc := ⟨.hbm, 516, rfl⟩
abbrev main_v368 : Ref sig .tc := ⟨.hbm, 517, rfl⟩
abbrev main_v369 : Ref sig .tc := ⟨.hbm, 518, rfl⟩
abbrev main_v370 : Ref sig .tc := ⟨.hbm, 519, rfl⟩
abbrev main_v371 : Ref sig .tc := ⟨.hbm, 520, rfl⟩
abbrev main_v372 : Ref sig .tc := ⟨.hbm, 521, rfl⟩
abbrev main_v373 : Ref sig .tc := ⟨.hbm, 522, rfl⟩
abbrev main_v374 : Ref sig .tc := ⟨.hbm, 523, rfl⟩
abbrev main_v375 : Ref sig .tc := ⟨.hbm, 524, rfl⟩
abbrev main_v376 : Ref sig .tc := ⟨.hbm, 525, rfl⟩
abbrev main_v377 : Ref sig .tc := ⟨.hbm, 526, rfl⟩
abbrev main_v378 : Ref sig .tc := ⟨.hbm, 527, rfl⟩
abbrev main_v379 : Ref sig .tc := ⟨.hbm, 528, rfl⟩
abbrev main_v380 : Ref sig .tc := ⟨.hbm, 529, rfl⟩
abbrev main_v381 : Ref sig .tc := ⟨.hbm, 530, rfl⟩
abbrev main_cst_33 : Ref sig .tc := ⟨.hbm, 531, rfl⟩
abbrev main_v382 : Ref sig .tc := ⟨.hbm, 532, rfl⟩
abbrev main_v383 : Ref sig .tc := ⟨.hbm, 533, rfl⟩
abbrev main_v384 : Ref sig .tc := ⟨.hbm, 534, rfl⟩
abbrev main_v385 : Ref sig .tc := ⟨.hbm, 535, rfl⟩
abbrev main_v386 : Ref sig .tc := ⟨.hbm, 536, rfl⟩
abbrev main_cst_34 : Ref sig .tc := ⟨.hbm, 537, rfl⟩
abbrev main_v387 : Ref sig .tc := ⟨.hbm, 538, rfl⟩
abbrev main_v388 : Ref sig .tc := ⟨.hbm, 539, rfl⟩
abbrev main_v389 : Ref sig .tc := ⟨.hbm, 540, rfl⟩
abbrev main_v390 : Ref sig .tc := ⟨.hbm, 541, rfl⟩
abbrev main_v391 : Ref sig .tc := ⟨.hbm, 542, rfl⟩
abbrev main_cst_35 : Ref sig .tc := ⟨.hbm, 543, rfl⟩
abbrev main_v392 : Ref sig .tc := ⟨.hbm, 544, rfl⟩
abbrev main_v393 : Ref sig .tc := ⟨.hbm, 545, rfl⟩
abbrev main_v394 : Ref sig .tc := ⟨.hbm, 546, rfl⟩
abbrev main_c_36 : Ref sig .tc := ⟨.hbm, 547, rfl⟩
abbrev main_v395 : Ref sig .tc := ⟨.hbm, 548, rfl⟩
abbrev main_v396 : Ref sig .tc := ⟨.hbm, 549, rfl⟩
abbrev main_v397 : Ref sig .tc := ⟨.hbm, 550, rfl⟩
abbrev main_v398 : Ref sig .tc := ⟨.hbm, 551, rfl⟩
abbrev main_cst_37 : Ref sig .tc := ⟨.hbm, 552, rfl⟩
abbrev main_v399 : Ref sig .tc := ⟨.hbm, 553, rfl⟩
abbrev main_v400 : Ref sig .tc := ⟨.hbm, 554, rfl⟩
abbrev main_cst_38 : Ref sig .tc := ⟨.hbm, 555, rfl⟩
abbrev main_v401 : Ref sig .tc := ⟨.hbm, 556, rfl⟩
abbrev main_v402 : Ref sig .tc := ⟨.hbm, 557, rfl⟩
abbrev main_v403 : Ref sig .tc := ⟨.hbm, 558, rfl⟩
abbrev main_v404 : Ref sig .tc := ⟨.hbm, 559, rfl⟩
abbrev main_v405 : Ref sig .tc := ⟨.hbm, 560, rfl⟩
abbrev main_v406 : Ref sig .tc := ⟨.hbm, 561, rfl⟩
abbrev main_v407 : Ref sig .tc := ⟨.hbm, 562, rfl⟩
abbrev main_v408 : Ref sig .tc := ⟨.hbm, 563, rfl⟩
abbrev main_v409 : Ref sig .tc := ⟨.hbm, 564, rfl⟩
abbrev main_v410 : Ref sig .tc := ⟨.hbm, 565, rfl⟩
abbrev main_v411 : Ref sig .tc := ⟨.hbm, 566, rfl⟩
abbrev main_v412 : Ref sig .tc := ⟨.hbm, 567, rfl⟩
abbrev main_v413 : Ref sig .tc := ⟨.hbm, 568, rfl⟩
abbrev main_v414 : Ref sig .tc := ⟨.hbm, 569, rfl⟩
abbrev main_v415 : Ref sig .tc := ⟨.hbm, 570, rfl⟩
abbrev main_v416 : Ref sig .tc := ⟨.hbm, 571, rfl⟩
abbrev main_c_39 : Ref sig .tc := ⟨.hbm, 572, rfl⟩
abbrev main_v417 : Ref sig .tc := ⟨.hbm, 573, rfl⟩
abbrev main_v418 : Ref sig .tc := ⟨.hbm, 574, rfl⟩
abbrev main_c_40 : Ref sig .tc := ⟨.hbm, 575, rfl⟩
abbrev main_v419 : Ref sig .tc := ⟨.hbm, 576, rfl⟩
abbrev main_v420 : Ref sig .tc := ⟨.hbm, 577, rfl⟩
abbrev main_v421 : Ref sig .tc := ⟨.hbm, 578, rfl⟩
abbrev main_call5_c : Ref sig .tc := ⟨.hbm, 579, rfl⟩
abbrev main_call5_v0 : Ref sig .tc := ⟨.hbm, 580, rfl⟩
abbrev main_call5_v1 : Ref sig .tc := ⟨.hbm, 581, rfl⟩
abbrev main_call5_c_0 : Ref sig .tc := ⟨.hbm, 582, rfl⟩
abbrev main_call5_v2 : Ref sig .tc := ⟨.hbm, 583, rfl⟩
abbrev main_call5_v3 : Ref sig .tc := ⟨.hbm, 584, rfl⟩
abbrev main_call5_v4 : Ref sig .tc := ⟨.hbm, 585, rfl⟩
abbrev main_call5_v5 : Ref sig .tc := ⟨.hbm, 586, rfl⟩
abbrev main_call5_c_1 : Ref sig .tc := ⟨.hbm, 587, rfl⟩
abbrev main_call5_c_2 : Ref sig .tc := ⟨.hbm, 588, rfl⟩
abbrev main_call5_v6 : Ref sig .tc := ⟨.hbm, 589, rfl⟩
abbrev main_call5_v7 : Ref sig .tc := ⟨.hbm, 590, rfl⟩
abbrev main_call5_v8 : Ref sig .tc := ⟨.hbm, 591, rfl⟩
abbrev main_call5_v9 : Ref sig .tc := ⟨.hbm, 592, rfl⟩
abbrev main_call5_v10 : Ref sig .tc := ⟨.hbm, 593, rfl⟩
abbrev main_call5_v11 : Ref sig .tc := ⟨.hbm, 594, rfl⟩
abbrev main_call5_c_3 : Ref sig .tc := ⟨.hbm, 595, rfl⟩
abbrev main_call5_v12 : Ref sig .tc := ⟨.hbm, 596, rfl⟩
abbrev main_call5_v13 : Ref sig .tc := ⟨.hbm, 597, rfl⟩
abbrev main_call5_v14 : Ref sig .tc := ⟨.hbm, 598, rfl⟩
abbrev main_call5_cst : Ref sig .tc := ⟨.hbm, 599, rfl⟩
abbrev main_call5_v15 : Ref sig .tc := ⟨.hbm, 600, rfl⟩
abbrev main_v422 : Ref sig .tc := ⟨.hbm, 601, rfl⟩
abbrev main_v423 : Ref sig .tc := ⟨.hbm, 602, rfl⟩
abbrev main_v424 : Ref sig .tc := ⟨.hbm, 603, rfl⟩
abbrev main_v425 : Ref sig .tc := ⟨.hbm, 604, rfl⟩
abbrev main_v426 : Ref sig .tc := ⟨.hbm, 605, rfl⟩
abbrev main_v427 : Ref sig .tc := ⟨.hbm, 606, rfl⟩
abbrev main_v428 : Ref sig .tc := ⟨.hbm, 607, rfl⟩
abbrev main_v429 : Ref sig .tc := ⟨.hbm, 608, rfl⟩
abbrev main_v430 : Ref sig .tc := ⟨.hbm, 609, rfl⟩
abbrev main_v431 : Ref sig .tc := ⟨.hbm, 610, rfl⟩
abbrev main_v432 : Ref sig .tc := ⟨.hbm, 611, rfl⟩
abbrev main_v433 : Ref sig .tc := ⟨.hbm, 612, rfl⟩
abbrev main_v434 : Ref sig .tc := ⟨.hbm, 613, rfl⟩
abbrev main_v435 : Ref sig .tc := ⟨.hbm, 614, rfl⟩
abbrev main_v436 : Ref sig .tc := ⟨.hbm, 615, rfl⟩
abbrev main_v437 : Ref sig .tc := ⟨.hbm, 616, rfl⟩
abbrev main_v438 : Ref sig .tc := ⟨.hbm, 617, rfl⟩
abbrev main_v439 : Ref sig .tc := ⟨.hbm, 618, rfl⟩
abbrev main_v440 : Ref sig .tc := ⟨.hbm, 619, rfl⟩
abbrev main_v441 : Ref sig .tc := ⟨.hbm, 620, rfl⟩
abbrev main_v442 : Ref sig .tc := ⟨.hbm, 621, rfl⟩
abbrev main_v443 : Ref sig .tc := ⟨.hbm, 622, rfl⟩
abbrev main_v444 : Ref sig .tc := ⟨.hbm, 623, rfl⟩
abbrev main_v445 : Ref sig .tc := ⟨.hbm, 624, rfl⟩
abbrev main_v446 : Ref sig .tc := ⟨.hbm, 625, rfl⟩
abbrev main_v447 : Ref sig .tc := ⟨.hbm, 626, rfl⟩
abbrev main_v448 : Ref sig .tc := ⟨.hbm, 627, rfl⟩
abbrev main_v449 : Ref sig .tc := ⟨.hbm, 628, rfl⟩
abbrev main_v450 : Ref sig .tc := ⟨.hbm, 629, rfl⟩
abbrev main_v451 : Ref sig .tc := ⟨.hbm, 630, rfl⟩
abbrev main_v452 : Ref sig .tc := ⟨.hbm, 631, rfl⟩
abbrev main_v453 : Ref sig .tc := ⟨.hbm, 632, rfl⟩
abbrev main_v454 : Ref sig .tc := ⟨.hbm, 633, rfl⟩
abbrev main_v455 : Ref sig .tc := ⟨.hbm, 634, rfl⟩
abbrev main_v456 : Ref sig .tc := ⟨.hbm, 635, rfl⟩
abbrev main_v457 : Ref sig .tc := ⟨.hbm, 636, rfl⟩
abbrev main_v458 : Ref sig .tc := ⟨.hbm, 637, rfl⟩
abbrev main_v459 : Ref sig .tc := ⟨.hbm, 638, rfl⟩
abbrev main_v460 : Ref sig .tc := ⟨.hbm, 639, rfl⟩
abbrev main_v461 : Ref sig .tc := ⟨.hbm, 640, rfl⟩
abbrev main_v462 : Ref sig .tc := ⟨.hbm, 641, rfl⟩
abbrev main_v463 : Ref sig .tc := ⟨.hbm, 642, rfl⟩
abbrev main_v464 : Ref sig .tc := ⟨.hbm, 643, rfl⟩
abbrev main_v465 : Ref sig .tc := ⟨.hbm, 644, rfl⟩
abbrev main_cst_41 : Ref sig .tc := ⟨.hbm, 645, rfl⟩
abbrev main_v466 : Ref sig .tc := ⟨.hbm, 646, rfl⟩
abbrev main_v467 : Ref sig .tc := ⟨.hbm, 647, rfl⟩
abbrev main_v468 : Ref sig .tc := ⟨.hbm, 648, rfl⟩
abbrev main_v469 : Ref sig .tc := ⟨.hbm, 649, rfl⟩
abbrev main_v470 : Ref sig .tc := ⟨.hbm, 650, rfl⟩
abbrev main_cst_42 : Ref sig .tc := ⟨.hbm, 651, rfl⟩
abbrev main_v471 : Ref sig .tc := ⟨.hbm, 652, rfl⟩
abbrev main_v472 : Ref sig .tc := ⟨.hbm, 653, rfl⟩
abbrev main_v473 : Ref sig .tc := ⟨.hbm, 654, rfl⟩
abbrev main_v474 : Ref sig .tc := ⟨.hbm, 655, rfl⟩
abbrev main_v475 : Ref sig .tc := ⟨.hbm, 656, rfl⟩
abbrev main_cst_43 : Ref sig .tc := ⟨.hbm, 657, rfl⟩
abbrev main_v476 : Ref sig .tc := ⟨.hbm, 658, rfl⟩
abbrev main_v477 : Ref sig .tc := ⟨.hbm, 659, rfl⟩
abbrev main_v478 : Ref sig .tc := ⟨.hbm, 660, rfl⟩
abbrev main_c_44 : Ref sig .tc := ⟨.hbm, 661, rfl⟩
abbrev main_v479 : Ref sig .tc := ⟨.hbm, 662, rfl⟩
abbrev main_v480 : Ref sig .tc := ⟨.hbm, 663, rfl⟩
abbrev main_v481 : Ref sig .tc := ⟨.hbm, 664, rfl⟩
abbrev main_v482 : Ref sig .tc := ⟨.hbm, 665, rfl⟩
abbrev main_cst_45 : Ref sig .tc := ⟨.hbm, 666, rfl⟩
abbrev main_v483 : Ref sig .tc := ⟨.hbm, 667, rfl⟩
abbrev main_v484 : Ref sig .tc := ⟨.hbm, 668, rfl⟩
abbrev main_cst_46 : Ref sig .tc := ⟨.hbm, 669, rfl⟩
abbrev main_v485 : Ref sig .tc := ⟨.hbm, 670, rfl⟩
abbrev main_v486 : Ref sig .tc := ⟨.hbm, 671, rfl⟩
abbrev main_v487 : Ref sig .tc := ⟨.hbm, 672, rfl⟩
abbrev main_v488 : Ref sig .tc := ⟨.hbm, 673, rfl⟩
abbrev main_v489 : Ref sig .tc := ⟨.hbm, 674, rfl⟩
abbrev main_v490 : Ref sig .tc := ⟨.hbm, 675, rfl⟩
abbrev main_v491 : Ref sig .tc := ⟨.hbm, 676, rfl⟩
abbrev main_v492 : Ref sig .tc := ⟨.hbm, 677, rfl⟩
abbrev main_v493 : Ref sig .tc := ⟨.hbm, 678, rfl⟩
abbrev main_v494 : Ref sig .tc := ⟨.hbm, 679, rfl⟩
abbrev main_v495 : Ref sig .tc := ⟨.hbm, 680, rfl⟩
abbrev main_v496 : Ref sig .tc := ⟨.hbm, 681, rfl⟩
abbrev main_v497 : Ref sig .tc := ⟨.hbm, 682, rfl⟩
abbrev main_v498 : Ref sig .tc := ⟨.hbm, 683, rfl⟩
abbrev main_v499 : Ref sig .tc := ⟨.hbm, 684, rfl⟩
abbrev main_v500 : Ref sig .tc := ⟨.hbm, 685, rfl⟩
abbrev main_c_47 : Ref sig .tc := ⟨.hbm, 686, rfl⟩
abbrev main_v501 : Ref sig .tc := ⟨.hbm, 687, rfl⟩
abbrev main_v502 : Ref sig .tc := ⟨.hbm, 688, rfl⟩
abbrev main_c_48 : Ref sig .tc := ⟨.hbm, 689, rfl⟩
abbrev main_v503 : Ref sig .tc := ⟨.hbm, 690, rfl⟩
abbrev main_v504 : Ref sig .tc := ⟨.hbm, 691, rfl⟩
abbrev main_v505 : Ref sig .tc := ⟨.hbm, 692, rfl⟩
abbrev main_call6_c : Ref sig .tc := ⟨.hbm, 693, rfl⟩
abbrev main_call6_v0 : Ref sig .tc := ⟨.hbm, 694, rfl⟩
abbrev main_call6_v1 : Ref sig .tc := ⟨.hbm, 695, rfl⟩
abbrev main_call6_c_0 : Ref sig .tc := ⟨.hbm, 696, rfl⟩
abbrev main_call6_v2 : Ref sig .tc := ⟨.hbm, 697, rfl⟩
abbrev main_call6_v3 : Ref sig .tc := ⟨.hbm, 698, rfl⟩
abbrev main_call6_v4 : Ref sig .tc := ⟨.hbm, 699, rfl⟩
abbrev main_call6_v5 : Ref sig .tc := ⟨.hbm, 700, rfl⟩
abbrev main_call6_c_1 : Ref sig .tc := ⟨.hbm, 701, rfl⟩
abbrev main_call6_c_2 : Ref sig .tc := ⟨.hbm, 702, rfl⟩
abbrev main_call6_v6 : Ref sig .tc := ⟨.hbm, 703, rfl⟩
abbrev main_call6_v7 : Ref sig .tc := ⟨.hbm, 704, rfl⟩
abbrev main_call6_v8 : Ref sig .tc := ⟨.hbm, 705, rfl⟩
abbrev main_call6_v9 : Ref sig .tc := ⟨.hbm, 706, rfl⟩
abbrev main_call6_v10 : Ref sig .tc := ⟨.hbm, 707, rfl⟩
abbrev main_call6_v11 : Ref sig .tc := ⟨.hbm, 708, rfl⟩
abbrev main_call6_c_3 : Ref sig .tc := ⟨.hbm, 709, rfl⟩
abbrev main_call6_v12 : Ref sig .tc := ⟨.hbm, 710, rfl⟩
abbrev main_call6_v13 : Ref sig .tc := ⟨.hbm, 711, rfl⟩
abbrev main_call6_v14 : Ref sig .tc := ⟨.hbm, 712, rfl⟩
abbrev main_call6_cst : Ref sig .tc := ⟨.hbm, 713, rfl⟩
abbrev main_call6_v15 : Ref sig .tc := ⟨.hbm, 714, rfl⟩
abbrev main_v506 : Ref sig .tc := ⟨.hbm, 715, rfl⟩
abbrev main_v507 : Ref sig .tc := ⟨.hbm, 716, rfl⟩
abbrev main_v508 : Ref sig .tc := ⟨.hbm, 717, rfl⟩
abbrev main_v509 : Ref sig .tc := ⟨.hbm, 718, rfl⟩
abbrev main_v510 : Ref sig .tc := ⟨.hbm, 719, rfl⟩
abbrev main_v511 : Ref sig .tc := ⟨.hbm, 720, rfl⟩
abbrev main_v512 : Ref sig .tc := ⟨.hbm, 721, rfl⟩
abbrev main_v513 : Ref sig .tc := ⟨.hbm, 722, rfl⟩
abbrev main_v514 : Ref sig .tc := ⟨.hbm, 723, rfl⟩
abbrev main_v515 : Ref sig .tc := ⟨.hbm, 724, rfl⟩
abbrev main_v516 : Ref sig .tc := ⟨.hbm, 725, rfl⟩
abbrev main_v517 : Ref sig .tc := ⟨.hbm, 726, rfl⟩
abbrev main_v518 : Ref sig .tc := ⟨.hbm, 727, rfl⟩
abbrev main_v519 : Ref sig .tc := ⟨.hbm, 728, rfl⟩
abbrev main_v520 : Ref sig .tc := ⟨.hbm, 729, rfl⟩
abbrev main_v521 : Ref sig .tc := ⟨.hbm, 730, rfl⟩
abbrev main_v522 : Ref sig .tc := ⟨.hbm, 731, rfl⟩
abbrev main_v523 : Ref sig .tc := ⟨.hbm, 732, rfl⟩
abbrev main_v524 : Ref sig .tc := ⟨.hbm, 733, rfl⟩
abbrev main_v525 : Ref sig .tc := ⟨.hbm, 734, rfl⟩
abbrev main_v526 : Ref sig .tc := ⟨.hbm, 735, rfl⟩
abbrev main_v527 : Ref sig .tc := ⟨.hbm, 736, rfl⟩
abbrev main_v528 : Ref sig .tc := ⟨.hbm, 737, rfl⟩
abbrev main_v529 : Ref sig .tc := ⟨.hbm, 738, rfl⟩
abbrev main_v530 : Ref sig .tc := ⟨.hbm, 739, rfl⟩
abbrev main_v531 : Ref sig .tc := ⟨.hbm, 740, rfl⟩
abbrev main_v532 : Ref sig .tc := ⟨.hbm, 741, rfl⟩
abbrev main_v533 : Ref sig .tc := ⟨.hbm, 742, rfl⟩
abbrev main_v534 : Ref sig .tc := ⟨.hbm, 743, rfl⟩
abbrev main_v535 : Ref sig .tc := ⟨.hbm, 744, rfl⟩
abbrev main_v536 : Ref sig .tc := ⟨.hbm, 745, rfl⟩
abbrev main_v537 : Ref sig .tc := ⟨.hbm, 746, rfl⟩
abbrev main_v538 : Ref sig .tc := ⟨.hbm, 747, rfl⟩
abbrev main_v539 : Ref sig .tc := ⟨.hbm, 748, rfl⟩
abbrev main_v540 : Ref sig .tc := ⟨.hbm, 749, rfl⟩
abbrev main_v541 : Ref sig .tc := ⟨.hbm, 750, rfl⟩
abbrev main_v542 : Ref sig .tc := ⟨.hbm, 751, rfl⟩
abbrev main_v543 : Ref sig .tc := ⟨.hbm, 752, rfl⟩
abbrev main_v544 : Ref sig .tc := ⟨.hbm, 753, rfl⟩
abbrev main_v545 : Ref sig .tc := ⟨.hbm, 754, rfl⟩
abbrev main_v546 : Ref sig .tc := ⟨.hbm, 755, rfl⟩
abbrev main_v547 : Ref sig .tc := ⟨.hbm, 756, rfl⟩
abbrev main_v548 : Ref sig .tc := ⟨.hbm, 757, rfl⟩
abbrev main_v549 : Ref sig .tc := ⟨.hbm, 758, rfl⟩
abbrev main_cst_49 : Ref sig .tc := ⟨.hbm, 759, rfl⟩
abbrev main_v550 : Ref sig .tc := ⟨.hbm, 760, rfl⟩
abbrev main_v551 : Ref sig .tc := ⟨.hbm, 761, rfl⟩
abbrev main_v552 : Ref sig .tc := ⟨.hbm, 762, rfl⟩
abbrev main_v553 : Ref sig .tc := ⟨.hbm, 763, rfl⟩
abbrev main_v554 : Ref sig .tc := ⟨.hbm, 764, rfl⟩
abbrev main_cst_50 : Ref sig .tc := ⟨.hbm, 765, rfl⟩
abbrev main_v555 : Ref sig .tc := ⟨.hbm, 766, rfl⟩
abbrev main_v556 : Ref sig .tc := ⟨.hbm, 767, rfl⟩
abbrev main_v557 : Ref sig .tc := ⟨.hbm, 768, rfl⟩
abbrev main_v558 : Ref sig .tc := ⟨.hbm, 769, rfl⟩
abbrev main_v559 : Ref sig .tc := ⟨.hbm, 770, rfl⟩
abbrev main_cst_51 : Ref sig .tc := ⟨.hbm, 771, rfl⟩
abbrev main_v560 : Ref sig .tc := ⟨.hbm, 772, rfl⟩
abbrev main_v561 : Ref sig .tc := ⟨.hbm, 773, rfl⟩
abbrev main_v562 : Ref sig .tc := ⟨.hbm, 774, rfl⟩
abbrev main_c_52 : Ref sig .tc := ⟨.hbm, 775, rfl⟩
abbrev main_v563 : Ref sig .tc := ⟨.hbm, 776, rfl⟩
abbrev main_v564 : Ref sig .tc := ⟨.hbm, 777, rfl⟩
abbrev main_v565 : Ref sig .tc := ⟨.hbm, 778, rfl⟩
abbrev main_v566 : Ref sig .tc := ⟨.hbm, 779, rfl⟩
abbrev main_cst_53 : Ref sig .tc := ⟨.hbm, 780, rfl⟩
abbrev main_v567 : Ref sig .tc := ⟨.hbm, 781, rfl⟩
abbrev main_v568 : Ref sig .tc := ⟨.hbm, 782, rfl⟩
abbrev main_cst_54 : Ref sig .tc := ⟨.hbm, 783, rfl⟩
abbrev main_v569 : Ref sig .tc := ⟨.hbm, 784, rfl⟩
abbrev main_v570 : Ref sig .tc := ⟨.hbm, 785, rfl⟩
abbrev main_v571 : Ref sig .tc := ⟨.hbm, 786, rfl⟩
abbrev main_v572 : Ref sig .tc := ⟨.hbm, 787, rfl⟩
abbrev main_v573 : Ref sig .tc := ⟨.hbm, 788, rfl⟩
abbrev main_v574 : Ref sig .tc := ⟨.hbm, 789, rfl⟩
abbrev main_v575 : Ref sig .tc := ⟨.hbm, 790, rfl⟩
abbrev main_v576 : Ref sig .tc := ⟨.hbm, 791, rfl⟩
abbrev main_v577 : Ref sig .tc := ⟨.hbm, 792, rfl⟩
abbrev main_v578 : Ref sig .tc := ⟨.hbm, 793, rfl⟩
abbrev main_v579 : Ref sig .tc := ⟨.hbm, 794, rfl⟩
abbrev main_v580 : Ref sig .tc := ⟨.hbm, 795, rfl⟩
abbrev main_v581 : Ref sig .tc := ⟨.hbm, 796, rfl⟩
abbrev main_v582 : Ref sig .tc := ⟨.hbm, 797, rfl⟩
abbrev main_v583 : Ref sig .tc := ⟨.hbm, 798, rfl⟩
abbrev main_v584 : Ref sig .tc := ⟨.hbm, 799, rfl⟩
abbrev main_c_55 : Ref sig .tc := ⟨.hbm, 800, rfl⟩
abbrev main_v585 : Ref sig .tc := ⟨.hbm, 801, rfl⟩
abbrev main_v586 : Ref sig .tc := ⟨.hbm, 802, rfl⟩
abbrev main_c_56 : Ref sig .tc := ⟨.hbm, 803, rfl⟩
abbrev main_v587 : Ref sig .tc := ⟨.hbm, 804, rfl⟩
abbrev main_v588 : Ref sig .tc := ⟨.hbm, 805, rfl⟩
abbrev main_v589 : Ref sig .tc := ⟨.hbm, 806, rfl⟩
abbrev main_call7_c : Ref sig .tc := ⟨.hbm, 807, rfl⟩
abbrev main_call7_v0 : Ref sig .tc := ⟨.hbm, 808, rfl⟩
abbrev main_call7_v1 : Ref sig .tc := ⟨.hbm, 809, rfl⟩
abbrev main_call7_c_0 : Ref sig .tc := ⟨.hbm, 810, rfl⟩
abbrev main_call7_v2 : Ref sig .tc := ⟨.hbm, 811, rfl⟩
abbrev main_call7_v3 : Ref sig .tc := ⟨.hbm, 812, rfl⟩
abbrev main_call7_v4 : Ref sig .tc := ⟨.hbm, 813, rfl⟩
abbrev main_call7_v5 : Ref sig .tc := ⟨.hbm, 814, rfl⟩
abbrev main_call7_c_1 : Ref sig .tc := ⟨.hbm, 815, rfl⟩
abbrev main_call7_c_2 : Ref sig .tc := ⟨.hbm, 816, rfl⟩
abbrev main_call7_v6 : Ref sig .tc := ⟨.hbm, 817, rfl⟩
abbrev main_call7_v7 : Ref sig .tc := ⟨.hbm, 818, rfl⟩
abbrev main_call7_v8 : Ref sig .tc := ⟨.hbm, 819, rfl⟩
abbrev main_call7_v9 : Ref sig .tc := ⟨.hbm, 820, rfl⟩
abbrev main_call7_v10 : Ref sig .tc := ⟨.hbm, 821, rfl⟩
abbrev main_call7_v11 : Ref sig .tc := ⟨.hbm, 822, rfl⟩
abbrev main_call7_c_3 : Ref sig .tc := ⟨.hbm, 823, rfl⟩
abbrev main_call7_v12 : Ref sig .tc := ⟨.hbm, 824, rfl⟩
abbrev main_call7_v13 : Ref sig .tc := ⟨.hbm, 825, rfl⟩
abbrev main_call7_v14 : Ref sig .tc := ⟨.hbm, 826, rfl⟩
abbrev main_call7_cst : Ref sig .tc := ⟨.hbm, 827, rfl⟩
abbrev main_call7_v15 : Ref sig .tc := ⟨.hbm, 828, rfl⟩
abbrev main_v590 : Ref sig .tc := ⟨.hbm, 829, rfl⟩
abbrev main_v591 : Ref sig .tc := ⟨.hbm, 830, rfl⟩
abbrev main_v592 : Ref sig .tc := ⟨.hbm, 831, rfl⟩
abbrev main_v593 : Ref sig .tc := ⟨.hbm, 832, rfl⟩
abbrev main_v594 : Ref sig .tc := ⟨.hbm, 833, rfl⟩
abbrev main_v595 : Ref sig .tc := ⟨.hbm, 834, rfl⟩
abbrev main_v596 : Ref sig .tc := ⟨.hbm, 835, rfl⟩
abbrev main_v597 : Ref sig .tc := ⟨.hbm, 836, rfl⟩
abbrev main_v598 : Ref sig .tc := ⟨.hbm, 837, rfl⟩
abbrev main_v599 : Ref sig .tc := ⟨.hbm, 838, rfl⟩
abbrev main_v600 : Ref sig .tc := ⟨.hbm, 839, rfl⟩
abbrev main_v601 : Ref sig .tc := ⟨.hbm, 840, rfl⟩
abbrev main_v602 : Ref sig .tc := ⟨.hbm, 841, rfl⟩
abbrev main_v603 : Ref sig .tc := ⟨.hbm, 842, rfl⟩
abbrev main_v604 : Ref sig .tc := ⟨.hbm, 843, rfl⟩
abbrev main_v605 : Ref sig .tc := ⟨.hbm, 844, rfl⟩
abbrev main_v606 : Ref sig .tc := ⟨.hbm, 845, rfl⟩
abbrev main_v607 : Ref sig .tc := ⟨.hbm, 846, rfl⟩
abbrev main_v608 : Ref sig .tc := ⟨.hbm, 847, rfl⟩
abbrev main_v609 : Ref sig .tc := ⟨.hbm, 848, rfl⟩
abbrev main_v610 : Ref sig .tc := ⟨.hbm, 849, rfl⟩
abbrev main_v611 : Ref sig .tc := ⟨.hbm, 850, rfl⟩
abbrev main_v612 : Ref sig .tc := ⟨.hbm, 851, rfl⟩
abbrev main_v613 : Ref sig .tc := ⟨.hbm, 852, rfl⟩
abbrev main_v614 : Ref sig .tc := ⟨.hbm, 853, rfl⟩
abbrev main_v615 : Ref sig .tc := ⟨.hbm, 854, rfl⟩
abbrev main_v616 : Ref sig .tc := ⟨.hbm, 855, rfl⟩
abbrev main_v617 : Ref sig .tc := ⟨.hbm, 856, rfl⟩
abbrev main_v618 : Ref sig .tc := ⟨.hbm, 857, rfl⟩
abbrev main_v619 : Ref sig .tc := ⟨.hbm, 858, rfl⟩
abbrev main_v620 : Ref sig .tc := ⟨.hbm, 859, rfl⟩
abbrev main_v621 : Ref sig .tc := ⟨.hbm, 860, rfl⟩
abbrev main_v622 : Ref sig .tc := ⟨.hbm, 861, rfl⟩
abbrev main_v623 : Ref sig .tc := ⟨.hbm, 862, rfl⟩
abbrev main_v624 : Ref sig .tc := ⟨.hbm, 863, rfl⟩
abbrev main_v625 : Ref sig .tc := ⟨.hbm, 864, rfl⟩
abbrev main_v626 : Ref sig .tc := ⟨.hbm, 865, rfl⟩
abbrev main_v627 : Ref sig .tc := ⟨.hbm, 866, rfl⟩
abbrev main_v628 : Ref sig .tc := ⟨.hbm, 867, rfl⟩
abbrev main_v629 : Ref sig .tc := ⟨.hbm, 868, rfl⟩
abbrev main_v630 : Ref sig .tc := ⟨.hbm, 869, rfl⟩
abbrev main_v631 : Ref sig .tc := ⟨.hbm, 870, rfl⟩
abbrev main_v632 : Ref sig .tc := ⟨.hbm, 871, rfl⟩
abbrev main_v633 : Ref sig .tc := ⟨.hbm, 872, rfl⟩
abbrev main_cst_57 : Ref sig .tc := ⟨.hbm, 873, rfl⟩
abbrev main_v634 : Ref sig .tc := ⟨.hbm, 874, rfl⟩
abbrev main_v635 : Ref sig .tc := ⟨.hbm, 875, rfl⟩
abbrev main_v636 : Ref sig .tc := ⟨.hbm, 876, rfl⟩
abbrev main_v637 : Ref sig .tc := ⟨.hbm, 877, rfl⟩
abbrev main_v638 : Ref sig .tc := ⟨.hbm, 878, rfl⟩
abbrev main_cst_58 : Ref sig .tc := ⟨.hbm, 879, rfl⟩
abbrev main_v639 : Ref sig .tc := ⟨.hbm, 880, rfl⟩
abbrev main_v640 : Ref sig .tc := ⟨.hbm, 881, rfl⟩
abbrev main_v641 : Ref sig .tc := ⟨.hbm, 882, rfl⟩
abbrev main_v642 : Ref sig .tc := ⟨.hbm, 883, rfl⟩
abbrev main_v643 : Ref sig .tc := ⟨.hbm, 884, rfl⟩
abbrev main_cst_59 : Ref sig .tc := ⟨.hbm, 885, rfl⟩
abbrev main_v644 : Ref sig .tc := ⟨.hbm, 886, rfl⟩
abbrev main_v645 : Ref sig .tc := ⟨.hbm, 887, rfl⟩
abbrev main_v646 : Ref sig .tc := ⟨.hbm, 888, rfl⟩
abbrev main_c_60 : Ref sig .tc := ⟨.hbm, 889, rfl⟩
abbrev main_v647 : Ref sig .tc := ⟨.hbm, 890, rfl⟩
abbrev main_v648 : Ref sig .tc := ⟨.hbm, 891, rfl⟩
abbrev main_v649 : Ref sig .tc := ⟨.hbm, 892, rfl⟩
abbrev main_v650 : Ref sig .tc := ⟨.hbm, 893, rfl⟩
abbrev main_cst_61 : Ref sig .tc := ⟨.hbm, 894, rfl⟩
abbrev main_v651 : Ref sig .tc := ⟨.hbm, 895, rfl⟩
abbrev main_v652 : Ref sig .tc := ⟨.hbm, 896, rfl⟩
abbrev main_cst_62 : Ref sig .tc := ⟨.hbm, 897, rfl⟩
abbrev main_v653 : Ref sig .tc := ⟨.hbm, 898, rfl⟩
abbrev main_v654 : Ref sig .tc := ⟨.hbm, 899, rfl⟩
abbrev main_v655 : Ref sig .tc := ⟨.hbm, 900, rfl⟩
abbrev main_v656 : Ref sig .tc := ⟨.hbm, 901, rfl⟩
abbrev main_v657 : Ref sig .tc := ⟨.hbm, 902, rfl⟩
abbrev main_v658 : Ref sig .tc := ⟨.hbm, 903, rfl⟩
abbrev main_v659 : Ref sig .tc := ⟨.hbm, 904, rfl⟩
abbrev main_v660 : Ref sig .tc := ⟨.hbm, 905, rfl⟩
abbrev main_v661 : Ref sig .tc := ⟨.hbm, 906, rfl⟩
abbrev main_v662 : Ref sig .tc := ⟨.hbm, 907, rfl⟩
abbrev main_v663 : Ref sig .tc := ⟨.hbm, 908, rfl⟩
abbrev main_v664 : Ref sig .tc := ⟨.hbm, 909, rfl⟩
abbrev main_v665 : Ref sig .tc := ⟨.hbm, 910, rfl⟩
abbrev main_v666 : Ref sig .tc := ⟨.hbm, 911, rfl⟩
abbrev main_v667 : Ref sig .tc := ⟨.hbm, 912, rfl⟩
abbrev main_v668 : Ref sig .tc := ⟨.hbm, 913, rfl⟩
abbrev main_c_63 : Ref sig .tc := ⟨.hbm, 914, rfl⟩
abbrev main_v669 : Ref sig .tc := ⟨.hbm, 915, rfl⟩
abbrev main_v670 : Ref sig .tc := ⟨.hbm, 916, rfl⟩
abbrev main_v671 : Ref sig .tc := ⟨.hbm, 917, rfl⟩
abbrev main_call8_c : Ref sig .tc := ⟨.hbm, 918, rfl⟩
abbrev main_call8_v0 : Ref sig .tc := ⟨.hbm, 919, rfl⟩
abbrev main_call8_v1 : Ref sig .tc := ⟨.hbm, 920, rfl⟩
abbrev main_call8_c_0 : Ref sig .tc := ⟨.hbm, 921, rfl⟩
abbrev main_call8_v2 : Ref sig .tc := ⟨.hbm, 922, rfl⟩
abbrev main_call8_v3 : Ref sig .tc := ⟨.hbm, 923, rfl⟩
abbrev main_call8_v4 : Ref sig .tc := ⟨.hbm, 924, rfl⟩
abbrev main_call8_v5 : Ref sig .tc := ⟨.hbm, 925, rfl⟩
abbrev main_call8_c_1 : Ref sig .tc := ⟨.hbm, 926, rfl⟩
abbrev main_call8_c_2 : Ref sig .tc := ⟨.hbm, 927, rfl⟩
abbrev main_call8_v6 : Ref sig .tc := ⟨.hbm, 928, rfl⟩
abbrev main_call8_v7 : Ref sig .tc := ⟨.hbm, 929, rfl⟩
abbrev main_call8_v8 : Ref sig .tc := ⟨.hbm, 930, rfl⟩
abbrev main_call8_v9 : Ref sig .tc := ⟨.hbm, 931, rfl⟩
abbrev main_call8_v10 : Ref sig .tc := ⟨.hbm, 932, rfl⟩
abbrev main_call8_v11 : Ref sig .tc := ⟨.hbm, 933, rfl⟩
abbrev main_call8_c_3 : Ref sig .tc := ⟨.hbm, 934, rfl⟩
abbrev main_call8_v12 : Ref sig .tc := ⟨.hbm, 935, rfl⟩
abbrev main_call8_v13 : Ref sig .tc := ⟨.hbm, 936, rfl⟩
abbrev main_call8_v14 : Ref sig .tc := ⟨.hbm, 937, rfl⟩
abbrev main_call8_cst : Ref sig .tc := ⟨.hbm, 938, rfl⟩
abbrev main_call8_v15 : Ref sig .tc := ⟨.hbm, 939, rfl⟩
abbrev main_v672 : Ref sig .tc := ⟨.hbm, 940, rfl⟩
abbrev main_v673 : Ref sig .tc := ⟨.hbm, 941, rfl⟩
abbrev main_v674 : Ref sig .tc := ⟨.hbm, 942, rfl⟩
abbrev main_cst_64 : Ref sig .tc := ⟨.hbm, 943, rfl⟩
abbrev main_v675 : Ref sig .tc := ⟨.hbm, 944, rfl⟩
abbrev main_v676 : Ref sig .tc := ⟨.hbm, 945, rfl⟩
abbrev main_v677 : Ref sig .tc := ⟨.hbm, 946, rfl⟩
abbrev main_v678 : Ref sig .tc := ⟨.hbm, 947, rfl⟩
abbrev main_v679 : Ref sig .tc := ⟨.hbm, 948, rfl⟩
abbrev main_cst_65 : Ref sig .tc := ⟨.hbm, 949, rfl⟩
abbrev main_v680 : Ref sig .tc := ⟨.hbm, 950, rfl⟩
abbrev main_v681 : Ref sig .tc := ⟨.hbm, 951, rfl⟩
abbrev main_v682 : Ref sig .tc := ⟨.hbm, 952, rfl⟩
abbrev main_v683 : Ref sig .tc := ⟨.hbm, 953, rfl⟩
abbrev main_v684 : Ref sig .tc := ⟨.hbm, 954, rfl⟩

abbrev nD : Nat := 1
abbrev τ : Topo := Topo.v7x

variable {F : FTy → Type} [FloatOps F]
-- ==== Proof.BodyP.lean ====
/- The two cases of the kernel's body at Launch level: its branch conditions over the grid, and the body's triple in the
   table-writing case (points 0..7) and in the walking case (points 8..15). -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table is written at the first eight points. -/
theorem writes_iff : ∀ t : Fin cfg0.N, k0_cond1 (grid0.coords t) = 1#1 ↔ t.val < 8 :=
  (by decide +kernel : ∀ t : Fin grid0.N, k0_cond1 (grid0.coords t) = 1#1 ↔ t.val < 8)

/-- The trees are walked at the last eight points. -/
theorem walks_iff : ∀ t : Fin cfg0.N, k0_cond2 (grid0.coords t) = 1#1 ↔ 8 ≤ t.val :=
  (by decide +kernel : ∀ t : Fin grid0.N, k0_cond2 (grid0.coords t) = 1#1 ↔ 8 ≤ t.val)

/-- A whole buffer at some contents. -/
abbrev anyAt (c : Dev nD) {sp : Space} {s : Shape} {e : EltTy} (r : Memref sig .tc sp s e) : sProp 𝕄 :=
  iprop(∃ d, owns (c : Thread nD τ) r fullShare d)

set_option maxHeartbeats 4000000 in
/-- A table-writing point: the inputs keep their contents and the scratch ends at some contents. -/
theorem writes (c : Dev nD) (i : grid0.Coords)
    (r1 : Memref sig .tc .vmem S1x255x2x1024 .f32) (w1 : r1.IsWhole) (r2 : Memref sig .tc .vmem S256x1024 .f32) (w2 : r2.IsWhole)
    (r3 : Memref sig .tc .vmem S8x256x1024 .f32) (w3 : r3.IsWhole) (r4 : Memref sig .tc .vmem S256x1 .f32) (w4 : r4.IsWhole)
    (r5 : Memref sig .tc .vmem S256x8x1024 .f32) (w5 : r5.IsWhole) (r6 : Memref sig .tc .vmem S8x272x2048 .bf16) (w6 : r6.IsWhole)
    (on : k0_cond1 i = 1#1) (off : ¬k0_cond2 i = 1#1)
    (x1 : Vec F S1x255x2x1024 .f32) (x2 : Vec F S256x1024 .f32) (x3 : Vec F S8x256x1024 .f32)
    (E : Set ℕ) (K : PUnit → sProp 𝕄) :
    iprop(owns (c : Thread nD τ) r1 fullShare x1 ∗ owns (c : Thread nD τ) r2 fullShare x2 ∗ owns (c : Thread nD τ) r3 fullShare x3
        ∗ anyAt c r4 ∗ anyAt c r5 ∗ anyAt c r6
        ∗ (iprop(owns (c : Thread nD τ) r1 fullShare x1 ∗ owns (c : Thread nD τ) r2 fullShare x2 ∗ owns (c : Thread nD τ) r3 fullShare x3
            ∗ anyAt c r4 ∗ anyAt c r5 ∗ anyAt c r6) -∗ K ⟨⟩))
      ⊢ wp frame (wpE (defs₀ (F := F)) Variants.none c none) E (cc0__tree_kernel i r1 w1 r2 w2 r3 w3 r4 w4 r5 w5 r6 w6) K := by
  simp only [cc0__tree_kernel_eq_skeleton]; unfold cc0__tree_kernel_skel
  simp only [k0_part1_eq_skeleton, k0_part2_eq_skeleton, k0_part3_eq_skeleton, k0_part4_eq_skeleton]
  unfold anyAt owns
  iintro ⟨⟨%f1, %e1, H1⟩, ⟨%f2, %e2, H2⟩, ⟨%f3, %e3, H3⟩, ⟨%d4, %f4, -, H4⟩, ⟨%d5, %f5, -, H5⟩, ⟨%d6, %f6, -, H6⟩, Hk⟩
  obtain rfl := w1.eq_unread e1; obtain rfl := w2.eq_unread e2; obtain rfl := w3.eq_unread e3
  sl_exec (disch := first | sl_exact on | sl_exact off)
  sl_step
  iapply Hk
  isplitl [H1]
  · iexists _; isplitr; · ipureintro; exact w1.read_unread _
    iexact H1
  isplitl [H2]
  · iexists _; isplitr; · ipureintro; exact w2.read_unread _
    iexact H2
  isplitl [H3]
  · iexists _; isplitr; · ipureintro; exact w3.read_unread _
    iexact H3
  isplitl [H4]
  · iexists _, _; isplitr; swap; · iexact H4
    ipureintro; rfl
  isplitl [H5]
  · iexists _, _; isplitr; swap; · iexact H5
    ipureintro; rfl
  iexists _, _; isplitr; swap; · iexact H6
  ipureintro; rfl

set_option maxHeartbeats 4000000 in
/-- A walking point: the inputs keep their contents and the results end at some contents. -/
theorem walks (c : Dev nD) (i : grid0.Coords)
    (r1 : Memref sig .tc .vmem S1x255x2x1024 .f32) (w1 : r1.IsWhole) (r2 : Memref sig .tc .vmem S256x1024 .f32) (w2 : r2.IsWhole)
    (r3 : Memref sig .tc .vmem S8x256x1024 .f32) (w3 : r3.IsWhole) (r4 : Memref sig .tc .vmem S256x1 .f32) (w4 : r4.IsWhole)
    (r5 : Memref sig .tc .vmem S256x8x1024 .f32) (w5 : r5.IsWhole) (r6 : Memref sig .tc .vmem S8x272x2048 .bf16) (w6 : r6.IsWhole)
    (off : ¬k0_cond1 i = 1#1) (on : k0_cond2 i = 1#1)
    (x1 : Vec F S1x255x2x1024 .f32) (x2 : Vec F S256x1024 .f32) (x3 : Vec F S8x256x1024 .f32)
    (E : Set ℕ) (K : PUnit → sProp 𝕄) :
    iprop(owns (c : Thread nD τ) r1 fullShare x1 ∗ owns (c : Thread nD τ) r2 fullShare x2 ∗ owns (c : Thread nD τ) r3 fullShare x3
        ∗ anyAt c r4 ∗ anyAt c r5 ∗ anyAt c r6
        ∗ (iprop(owns (c : Thread nD τ) r1 fullShare x1 ∗ owns (c : Thread nD τ) r2 fullShare x2 ∗ owns (c : Thread nD τ) r3 fullShare x3
            ∗ anyAt c r4 ∗ anyAt c r5 ∗ anyAt c r6) -∗ K ⟨⟩))
      ⊢ wp frame (wpE (defs₀ (F := F)) Variants.none c none) E (cc0__tree_kernel i r1 w1 r2 w2 r3 w3 r4 w4 r5 w5 r6 w6) K := by
  simp only [cc0__tree_kernel_eq_skeleton]; unfold cc0__tree_kernel_skel
  simp only [k0_part5_eq_skeleton, k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton, k0_part16_eq_skeleton,
    k0_part17_eq_skeleton, k0_part18_eq_skeleton, k0_part19_eq_skeleton, k0_part20_eq_skeleton, k0_part21_eq_skeleton, k0_part22_eq_skeleton,
    k0_part23_eq_skeleton, k0_part24_eq_skeleton, k0_part25_eq_skeleton, k0_part26_eq_skeleton, k0_part27_eq_skeleton, k0_part28_eq_skeleton,
    k0_part29_eq_skeleton, k0_part30_eq_skeleton, k0_part31_eq_skeleton, k0_part32_eq_skeleton, k0_part33_eq_skeleton, k0_part34_eq_skeleton,
    k0_part35_eq_skeleton, k0_part36_eq_skeleton, k0_part37_eq_skeleton, k0_part38_eq_skeleton, k0_part39_eq_skeleton, k0_part40_eq_skeleton,
    k0_part41_eq_skeleton, k0_part42_eq_skeleton, k0_part43_eq_skeleton, k0_part44_eq_skeleton, k0_part45_eq_skeleton, k0_part46_eq_skeleton,
    k0_part47_eq_skeleton, k0_part48_eq_skeleton, k0_part49_eq_skeleton, k0_part50_eq_skeleton, k0_part51_eq_skeleton]
  unfold anyAt owns
  iintro ⟨⟨%f1, %e1, H1⟩, ⟨%f2, %e2, H2⟩, ⟨%f3, %e3, H3⟩, ⟨%d4, %f4, -, H4⟩, ⟨%d5, %f5, -, H5⟩, ⟨%d6, %f6, -, H6⟩, Hk⟩
  obtain rfl := w1.eq_unread e1; obtain rfl := w2.eq_unread e2; obtain rfl := w3.eq_unread e3
  sl_exec (disch := first | sl_exact on | sl_exact off)
  sl_step
  iapply Hk
  isplitl [H1]
  · iexists _; isplitr; · ipureintro; exact w1.read_unread _
    iexact H1
  isplitl [H2]
  · iexists _; isplitr; · ipureintro; exact w2.read_unread _
    iexact H2
  isplitl [H3]
  · iexists _; isplitr; · ipureintro; exact w3.read_unread _
    iexact H3
  isplitl [H4]
  · iexists _, _; isplitr; swap; · iexact H4
    ipureintro; rfl
  isplitl [H5]
  · iexists _, _; isplitr; swap; · iexact H5
    ipureintro; rfl
  iexists _, _; isplitr; swap; · iexact H6
  ipureintro; rfl

end Cert.Kernel.Body

end
-- ==== Proof.FrameP.lean ====
/- The kernel runs, leaves its arguments alone and leaves every counter at zero. Nothing is said here of what it
   computes: both results are left at some contents. -/
module

public import proofs.«01_k».proof.Proof.BodyP
public import Idealize.ShloMosaic.Lib.Claim

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two windows whose contents are not followed: the results. -/
def loose : Fin 5 → Bool := fun w => decide (3 ≤ w.val)

/-- The two results' buffers. -/
def results : Finset (Ref sig .tc) := {main_v1, main_v2}

/-- The lines after the kernel write nothing but the results. -/
theorem tail_writes : ∀ ops ∈ ([hostOps1] : List (List (HloOp τ sig (Elt F)))), ∀ op ∈ ops,
    ∀ b : Ref sig .tc, Proc.devRef .tc b ∈ op.writes → b ∈ results := by
  intro ops mem op hop b hb
  obtain rfl := List.mem_singleton.mp mem
  simp only [hostOps1, List.mem_cons, List.mem_nil_iff, or_false] at hop
  rcases hop with rfl | rfl <;>
  · simp only [StableHlo.unary_writes, StableHlo.reshape_writes, Finset.mem_singleton] at hb
    cases Proc.devRef_injective _ hb
    decide

/-- What each window holds: an input its block throughout, a result something. -/
def held (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Dat.unnamed (cfg := cfg0) ⟨3, h⟩ t
    | ⟨4, h⟩ => Dat.unnamed (cfg := cfg0) ⟨4, h⟩ t
  Φ _ := Pipeline.ΦA spec0 c
  q _ := fullShare
  owed _ := 0

theorem held_array (c : Dev nD) (w : Fin cfg0.W) : (held m 0 c).A w = V m c (Pipeline.arrRef spec0 w) := by dsimp only [held]

theorem left_0 (c : Dev nD) (t : Fin cfg0.N) : (held m 0 c).leavesExact 0 t = owns (c : Thread nD τ) (win0_0.stage (cfg0.slots t 0)) fullShare (iblk m c 0 t) := by
  unfold Dat.leavesExact; rw [show cfg0.idle 0 (grid0.coords t) = false from rfl]; dsimp only [held]
theorem left_1 (c : Dev nD) (t : Fin cfg0.N) : (held m 0 c).leavesExact 1 t = owns (c : Thread nD τ) (win0_1.stage (cfg0.slots t 1)) fullShare (iblk m c 1 t) := by
  unfold Dat.leavesExact; rw [show cfg0.idle 1 (grid0.coords t) = false from rfl]; dsimp only [held]
theorem left_2 (c : Dev nD) (t : Fin cfg0.N) : (held m 0 c).leavesExact 2 t = owns (c : Thread nD τ) (win0_2.stage (cfg0.slots t 2)) fullShare (iblk m c 2 t) := by
  unfold Dat.leavesExact; rw [show cfg0.idle 2 (grid0.coords t) = false from rfl]; dsimp only [held]

theorem found_0 (c : Dev nD) (t : Fin cfg0.N) (d) : (held m 0 c).before 0 t d = iblk m c 0 t :=
  before0_0_of m (held m 0 c) (held_array m c 0) (fun _ => by dsimp only [held]) t d
theorem found_1 (c : Dev nD) (t : Fin cfg0.N) (d) : (held m 0 c).before 1 t d = iblk m c 1 t :=
  before0_1_of m (held m 0 c) (held_array m c 1) (fun _ => by dsimp only [held]) t d
theorem found_2 (c : Dev nD) (t : Fin cfg0.N) (d) : (held m 0 c).before 2 t d = iblk m c 2 t :=
  before0_2_of m (held m 0 c) (held_array m c 2) (fun _ => by dsimp only [held]) t d

/-- Between points: the table's scratch at some contents, and the generator. -/
theorem between (c : Dev nD) :
    (Pipeline.ΦA spec0 c : sProp 𝕄) = iprop(anyAt c (Memref.whole cc0_scratch0) ∗ (∃ r, prngReg c r)) := by
  unfold Pipeline.ΦA anyAt; rw [scopedRest0_eq]; simp only [owns_whole]; try rfl

set_option maxHeartbeats 800000 in
/-- The body at any point, whichever of its two cases the point is in. -/
theorem point (c : Dev nD) (t : Fin cfg0.N) :
    iprop(Pipeline.ΦA spec0 c ∗ (held m 0 c).owesAt () t.castSucc
        ∗ (∃ d, owns (c : Thread nD τ) (win0_0.stage (cfg0.slots t 0)) fullShare ((held m 0 c).before 0 t d))
        ∗ (∃ d, owns (c : Thread nD τ) (win0_1.stage (cfg0.slots t 1)) fullShare ((held m 0 c).before 1 t d))
        ∗ (∃ d, owns (c : Thread nD τ) (win0_2.stage (cfg0.slots t 2)) fullShare ((held m 0 c).before 2 t d))
        ∗ anyAt c (win0_3.stage (cfg0.slots t 3)) ∗ anyAt c (win0_4.stage (cfg0.slots t 4)))
      ⊢ wp frame (wpE (defs₀ (F := F)) Variants.none c none) Set.univ (bodyAt0 t) (fun _ =>
        iprop(Pipeline.ΦA spec0 c ∗ (held m 0 c).owesAt () t.castSucc
          ∗ (held m 0 c).leavesExact 0 t ∗ (held m 0 c).leavesExact 1 t ∗ (held m 0 c).leavesExact 2 t
          ∗ anyAt c (win0_3.stage (cfg0.slots t 3)) ∗ anyAt c (win0_4.stage (cfg0.slots t 4)))) := by
  unfold bodyAt0
  simp only [found_0, found_1, found_2, left_0, left_1, left_2, between]
  have first_or_last : (k0_cond1 (grid0.coords t) = 1#1 ∧ ¬k0_cond2 (grid0.coords t) = 1#1)
      ∨ (¬k0_cond1 (grid0.coords t) = 1#1 ∧ k0_cond2 (grid0.coords t) = 1#1) := by
    rw [writes_iff, walks_iff]; omega
  iintro ⟨⟨Hs, Hg⟩, Ho, ⟨%_, H0⟩, ⟨%_, H1⟩, ⟨%_, H2⟩, H3, H4⟩
  iapply (show _ ⊢ _ from first_or_last.elim
    (fun h => writes c (grid0.coords t) _ _ _ _ _ _ _ _ _ _ _ _ h.1 h.2 (iblk m c 0 t) (iblk m c 1 t) (iblk m c 2 t) Set.univ _)
    (fun h => walks c (grid0.coords t) _ _ _ _ _ _ _ _ _ _ _ _ h.1 h.2 (iblk m c 0 t) (iblk m c 1 t) (iblk m c 2 t) Set.univ _))
  isplitl [H0]; · iexact H0
  isplitl [H1]; · iexact H1
  isplitl [H2]; · iexact H2
  isplitl [H3]; · iexact H3
  isplitl [H4]; · iexact H4
  isplitl [Hs]; · iexact Hs
  iintro ⟨H0, H1, H2, H3, H4, Hs⟩
  isplitl [Hs Hg]
  · isplitl [Hs]
    · iexact Hs
    iexact Hg
  isplitl [Ho]; · iexact Ho
  isplitl [H0]; · iexact H0
  isplitl [H1]; · iexact H1
  isplitl [H2]; · iexact H2
  isplitl [H3]; · iexact H3
  iexact H4

theorem body_row (t : Fin cfg0.N) : defs₀ (F := F) .tc cfg0.body (cfg0.bodyArgs t (cfg0.slots t)) = bodyAt0 t := by
  unfold defs₀; rw [Defs.onTc_tc]

theorem every_point (c : Dev nD) : BodyObligation (held (F := F) m 0 c) (defs₀ (F := F)) Variants.none () Set.univ loose := fun t => by
  rw [bigSep_W0, bigSep_W0, body_row]
  exact triple_restated (point m c t) rfl .rfl fun _ => .rfl

set_option backward.isDefEq.respectTransparency.types false in
set_option maxHeartbeats 800000 in
/-- The run from any memory at zero counters: the arrays staged in are unchanged, what no line writes is unchanged, and
    every counter ends at zero. -/
theorem run : θ_run defs (onTc (τ := τ) (main (F := F))) (s₀ m ρ) (fun r =>
    (Pipeline.RDat.FramePostR (cfgs 0) (fun c => (held m 0 c).toRForget loose) results (V m)) r ∧ r.2.sem = fun _ => 0) :=
  Pipeline.θ_run_frame_around_T_forget (Q' := _) cfgs (held m) (0 : Fin 1) launch0 defs₀ Variants.none loose results m ρ main
    (hbody := fun c => (every_point m c).loose) (hshare := fun c => (held m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := held_array m) (hΦ := fun _ _ => rfl)

/-- The kernel's frame: its arguments end as they began and every counter at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨(Pipeline.RDat.FramePostR.arr_in h.1 c 1 rfl).trans ((held_array m c 1).trans (V_main_arg0 m c)),
     (Pipeline.RDat.FramePostR.arr_in h.1 c 0 rfl).trans ((held_array m c 0).trans (V_main_arg1 m c)),
     (Pipeline.RDat.FramePostR.arr_in h.1 c 2 rfl).trans ((held_array m c 2).trans (V_main_arg2 m c)),
     ((h.1 c).2 main_arg3 (Finset.mem_sdiff.mpr ⟨Pipeline.mem_restRefs_of main_arg3 (by decide) (by decide), by decide⟩)).trans
       (V_main_arg3 m c)⟩, h.2⟩) (run m ρ)

end Cert.Kernel.Body

end
-- ==== Proof.Finite.lean ====
/- The precondition, read: every query and every key is a real. -/
module

public import proofs.«01_k».proof.Pre_finite
public import Idealize.ShloMosaic.Lib.Pointwise
public import Idealize.ShloMosaic.Lib.IdealHost
public import Idealize.ShloMosaic.Lib.ReduceAll

@[expose] public section

noncomputable section

namespace Cert.Pre_finite

open Idealize.ShloMosaic Cert.Pre_finite.Facts

/-- A value strictly between the infinities is a real. -/
theorem real_between {v : Ideal .f32}
    (h : IntOp.andi (FloatOps.cmpf .ogt v (FloatOps.ofBits .f32 0xFF800000#32)) (FloatOps.cmpf .olt v (FloatOps.ofBits .f32 0x7F800000#32)) = 1#1) :
    ∃ r : ℝ, v = (r : EReal) := by
  obtain ⟨low, high⟩ := IntOp.andi_eq_one.1 h
  have bot : (FloatOps.ofBits .f32 0xFF800000#32 : Ideal .f32) = (⊥ : EReal) := by
    show Ideal.ofBits .f32 0xFF800000#32 = (⊥ : EReal)
    simp [Ideal.ofBits, Ideal.ieee]
  have top : (FloatOps.ofBits .f32 0x7F800000#32 : Ideal .f32) = (⊤ : EReal) := by
    show Ideal.ofBits .f32 0x7F800000#32 = (⊤ : EReal)
    simp [Ideal.ofBits, Ideal.ieee]
  rw [bot] at low
  rw [top] at high
  induction v using EReal.rec with
  | bot => exact absurd low (by simp [FloatOps.cmpf, Ideal.cmp])
  | top => exact absurd high (by simp [FloatOps.cmpf, Ideal.cmp])
  | coe r => exact ⟨r, rfl⟩

instance : Subsingleton S_.Idx := ⟨fun _ _ => funext fun a => nomatch a⟩

variable [Facts] (a0 : FVec Ideal S2048x1024 .f32) (a1 : FVec Ideal S8x255x2x1024 .f32) (a2 : FVec Ideal S8x256x1024 .f32) (a3 : IVec S_ 32)

theorem query_real (h : (fn a0 a1 a2 a3).1 = fun _ => 1#1) (i : S2048x1024.Idx) : ∃ r : ℝ, a0 i = (r : EReal) := by
  unfold fn at h
  dsimp only at h
  have e := Host.reduce_andi_all _ _ _ _ _ (congrFun h (Shape.Idx.first h_S_)) i
  exact real_between e

theorem key_real (h : (fn a0 a1 a2 a3).2 = fun _ => 1#1) (i : S8x255x2x1024.Idx) : ∃ r : ℝ, a1 i = (r : EReal) := by
  unfold fn at h
  dsimp only at h
  have e := Host.reduce_andi_all _ _ _ _ _ (congrFun h (Shape.Idx.first h_S_)) i
  exact real_between e

end Cert.Pre_finite

end
-- ==== Proof.Tree.lean ====
/- The walk down one tree, over the reals: what both programs compute for one query and one head. -/
module

public import Idealize.ShloMosaic.Lib.IdealHost
public import Idealize.ShloMosaic.PureOps.Ideal.Laws

@[expose] public section

noncomputable section

namespace Cert.Tree

open Idealize.ShloMosaic

/-- One coordinate's match of a query with a node's two keys, as exponentials. -/
def both (k1 k2 q : ℝ) : ℝ :=
  (Real.exp (-k1) + Real.exp (-q)) * (Real.exp (-k2) + Real.exp q) / ((Real.exp (-k1) + Real.exp (-q)) + (Real.exp (-k2) + Real.exp q))

theorem both_pos (k1 k2 q : ℝ) : 0 < both k1 k2 q := by unfold both; positivity

/-- A node's two keys. -/
abbrev Pair := Fin 2 → Fin 1024 → ℝ

/-- The match of a query with a node: a sum over the coordinates. -/
def matched (κ : Pair) (q : Fin 1024 → ℝ) : ℝ := ∑ d, both (κ 0 d) (κ 1 d) (q d)

theorem matched_pos (κ : Pair) (q : Fin 1024 → ℝ) : 0 < matched κ q :=
  Finset.sum_pos (fun _ _ => both_pos _ _ _) ⟨0, Finset.mem_univ _⟩

/-- The child taken. -/
def turn (t : ℝ) : ℕ := if t ≤ 1 then 1 else 0

theorem turn_le (t : ℝ) : turn t ≤ 1 := by unfold turn; split_ifs <;> omega

/-- The place within level `d` the walk reaches, the nodes of a tree numbered level by level. -/
def place (K : ℕ → Pair) (q : Fin 1024 → ℝ) : ℕ → ℕ
  | 0 => 0
  | d + 1 => 2 * place K q d + turn (matched (K (2 ^ d - 1 + place K q d)) q)

/-- The match at level `d`. -/
def meet (K : ℕ → Pair) (q : Fin 1024 → ℝ) (d : ℕ) : ℝ := matched (K (2 ^ d - 1 + place K q d)) q

theorem place_succ (K : ℕ → Pair) (q : Fin 1024 → ℝ) (d : ℕ) : place K q (d + 1) = 2 * place K q d + turn (meet K q d) := rfl

theorem meet_pos (K : ℕ → Pair) (q : Fin 1024 → ℝ) (d : ℕ) : 0 < meet K q d := matched_pos _ _

theorem place_lt (K : ℕ → Pair) (q : Fin 1024 → ℝ) (d : ℕ) : place K q d < 2 ^ d := by
  induction d with
  | zero => simp [place]
  | succ d ih => rw [place_succ, pow_succ]; have := turn_le (meet K q d); omega

/-- A level's term of the sum behind the score. -/
def part (t : ℝ) : ℝ := min t (1 / t)

theorem part_pos {t : ℝ} (h : 0 < t) : 0 < part t := lt_min h (by positivity)

/-- The sum behind the score, over the first `n` levels. -/
def upto (K : ℕ → Pair) (q : Fin 1024 → ℝ) (n : ℕ) : ℝ := ∑ d ∈ Finset.range n, part (meet K q d)

theorem upto_succ (K : ℕ → Pair) (q : Fin 1024 → ℝ) (n : ℕ) : upto K q (n + 1) = upto K q n + part (meet K q n) :=
  Finset.sum_range_succ _ _

theorem upto_pos (K : ℕ → Pair) (q : Fin 1024 → ℝ) (n : ℕ) : 0 < upto K q (n + 1) :=
  Finset.sum_pos (fun _ _ => part_pos (meet_pos _ _ _)) ⟨0, by simp⟩

/-! ## The extended reals' operations at reals -/

theorem div_real (x : ℝ) {y : ℝ} (h : y ≠ 0) : Ideal.div (x : EReal) (y : EReal) = ((x / y : ℝ) : EReal) := by
  unfold Ideal.div
  rw [if_neg (by exact_mod_cast h), div_eq_mul_inv, EReal.coe_mul, EReal.coe_inv]

theorem log_real {x : ℝ} (h : 0 < x) : Ideal.log (x : EReal) = ((Real.log x : ℝ) : EReal) := by
  show (if x ≤ 0 then (⊥ : EReal) else (Real.log x : EReal)) = _
  rw [if_neg (not_le.mpr h)]

theorem exp_real (x : ℝ) : Ideal.exp (x : EReal) = ((Real.exp x : ℝ) : EReal) := rfl

theorem sum_real {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem min_real (x y : ℝ) : min (x : EReal) (y : EReal) = ((min x y : ℝ) : EReal) :=
  ((show Monotone ((↑) : ℝ → EReal) from fun _ _ h => EReal.coe_le_coe_iff.mpr h).map_min).symm

theorem max_real (x y : ℝ) : max (x : EReal) (y : EReal) = ((max x y : ℝ) : EReal) :=
  ((show Monotone ((↑) : ℝ → EReal) from fun _ _ h => EReal.coe_le_coe_iff.mpr h).map_max).symm

theorem neg_real (x : ℝ) : (0 : EReal) - (x : EReal) = ((-x : ℝ) : EReal) := by rw [zero_sub, EReal.coe_neg]

end Cert.Tree

end
-- ==== Proof.Walk.lean ====
/- What a walking point computes, written once for every level and every head: from a block of queries and the eight
   tables of exponentials, the sum behind the score and the value rows. -/
module

public import proofs.«01_k».proof.Proof.Gen.KernelIdeal

@[expose] public section

noncomputable section

namespace Cert.KernelIdeal.Walk

open Cert.KernelIdeal Cert.KernelIdeal.Gen Cert.KernelIdeal.Facts
open Idealize.ShloMosaic

variable {F : FTy → Type} [FloatOps F]

/-- A word per row. -/
abbrev Ix := IVec S256x1 32
/-- A number per row. -/
abbrev Num (F : FTy → Type) := FVec F S256x1 .f32
/-- One head's table of exponentials. -/
abbrev Table (F : FTy → Type) := FVec F S272x2048 .bf16

/-- One where the row's node is `k`, zero elsewhere. -/
def only (ix : Ix) (k : BitVec 32) : FVec F S256x1 .bf16 :=
  truncf .bf16 (sitofp .f32 (extui 32 (cmpi .eq ix (broadcast S256x1 k)) natLt_1_32)) bitsLt_bf16_f32

/-- A table row, on the rows whose node is `k`. -/
def picked (ix : Ix) (k : BitVec 32) (row : FVec F S1x2048 .bf16) : FVec F S256x2048 .bf16 :=
  mulf (broadcastTo S256x2048 (only ix k) broadcasts_S256x1_S256x2048) (broadcastTo S256x2048 row broadcasts_S1x2048_S256x2048)

/-- The root's row, the same for every row. -/
def pick1 (e : Table F) (_ : Ix) : FVec F S256x2048 .bf16 :=
  broadcastTo S256x2048 (shapeCast S1x2048 (extractStridedSlice S1x2048 ![0, 0] e slices_S272x2048_o0_0_S1x2048) shapeCasts_S1x2048_S1x2048)
    broadcasts_S1x2048_S256x2048

/-- The row of a level of two nodes. -/
def pick2 (e : Table F) (ix : Ix) : FVec F S256x2048 .bf16 :=
  addf (picked ix 0#32 (extractStridedSlice S1x2048 ![8, 0] e slices_S272x2048_o8_0_S1x2048))
    (picked ix 1#32 (extractStridedSlice S1x2048 ![9, 0] e slices_S272x2048_o9_0_S1x2048))

/-- The row of a level of four nodes. -/
def pick4 (e : Table F) (ix : Ix) : FVec F S256x2048 .bf16 :=
  addf (addf (addf (picked ix 0#32 (extractStridedSlice S1x2048 ![16, 0] e slices_S272x2048_o16_0_S1x2048))
    (picked ix 1#32 (extractStridedSlice S1x2048 ![17, 0] e slices_S272x2048_o17_0_S1x2048)))
    (picked ix 2#32 (extractStridedSlice S1x2048 ![18, 0] e slices_S272x2048_o18_0_S1x2048)))
    (picked ix 3#32 (extractStridedSlice S1x2048 ![19, 0] e slices_S272x2048_o19_0_S1x2048))

/-- The row of a level of eight nodes, as a product with the rows of an identity; the wider levels likewise. -/
def pick8 (e : Table F) (ix : Ix) : FVec F S256x2048 .bf16 :=
  truncf .bf16 (matmul dot_S256x8_S8x2048_S256x2048_1_0_0_1_n_n none
    (truncf .bf16 (sitofp .f32 (extui 32 (cmpi .eq (iota .tc S256x8 32 [1] iota_S256x8_d1_w32)
      (broadcastTo S256x8 ix broadcasts_S256x1_S256x8)) natLt_1_32)) bitsLt_bf16_f32)
    (extractStridedSlice S8x2048 ![24, 0] e slices_S272x2048_o24_0_S8x2048) (constant S256x2048 .f32 0x00000000#32)) bitsLt_bf16_f32
def pick16 (e : Table F) (ix : Ix) : FVec F S256x2048 .bf16 :=
  truncf .bf16 (matmul dot_S256x16_S16x2048_S256x2048_1_0_0_1_n_n none
    (truncf .bf16 (sitofp .f32 (extui 32 (cmpi .eq (iota .tc S256x16 32 [1] iota_S256x16_d1_w32)
      (broadcastTo S256x16 ix broadcasts_S256x1_S256x16)) natLt_1_32)) bitsLt_bf16_f32)
    (extractStridedSlice S16x2048 ![32, 0] e slices_S272x2048_o32_0_S16x2048) (constant S256x2048 .f32 0x00000000#32)) bitsLt_bf16_f32
def pick32 (e : Table F) (ix : Ix) : FVec F S256x2048 .bf16 :=
  truncf .bf16 (matmul dot_S256x32_S32x2048_S256x2048_1_0_0_1_n_n none
    (truncf .bf16 (sitofp .f32 (extui 32 (cmpi .eq (iota .tc S256x32 32 [1] iota_S256x32_d1_w32)
      (broadcastTo S256x32 ix broadcasts_S256x1_S256x32)) natLt_1_32)) bitsLt_bf16_f32)
    (extractStridedSlice S32x2048 ![48, 0] e slices_S272x2048_o48_0_S32x2048) (constant S256x2048 .f32 0x00000000#32)) bitsLt_bf16_f32
def pick64 (e : Table F) (ix : Ix) : FVec F S256x2048 .bf16 :=
  truncf .bf16 (matmul dot_S256x64_S64x2048_S256x2048_1_0_0_1_n_n none
    (truncf .bf16 (sitofp .f32 (extui 32 (cmpi .eq (iota .tc S256x64 32 [1] iota_S256x64_d1_w32)
      (broadcastTo S256x64 ix broadcasts_S256x1_S256x64)) natLt_1_32)) bitsLt_bf16_f32)
    (extractStridedSlice S64x2048 ![80, 0] e slices_S272x2048_o80_0_S64x2048) (constant S256x2048 .f32 0x00000000#32)) bitsLt_bf16_f32
def pick128 (e : Table F) (ix : Ix) : FVec F S256x2048 .bf16 :=
  truncf .bf16 (matmul dot_S256x128_S128x2048_S256x2048_1_0_0_1_n_n none
    (truncf .bf16 (sitofp .f32 (extui 32 (cmpi .eq (iota .tc S256x128 32 [1] iota_S256x128_d1_w32)
      (broadcastTo S256x128 ix broadcasts_S256x1_S256x128)) natLt_1_32)) bitsLt_bf16_f32)
    (extractStridedSlice S128x2048 ![144, 0] e slices_S272x2048_o144_0_S128x2048) (constant S256x2048 .f32 0x00000000#32)) bitsLt_bf16_f32

/-- The match of a row of exponentials against the queries' exponentials `u`, `v`: a sum along the row. -/
def ratio (u v : FVec F S256x1024 .bf16) (g : FVec F S256x2048 .bf16) : Num F :=
  extf .f32 (truncf .bf16 (shapeCast S256x1 (multiReduction .add [1] S256 (extf .f32 (divf
      (mulf (addf (extractStridedSlice S256x1024 ![0, 0] g slices_S256x2048_o0_0_S256x1024) u)
        (addf (extractStridedSlice S256x1024 ![0, 1024] g slices_S256x2048_o0_1024_S256x1024) v))
      (addf (addf (extractStridedSlice S256x1024 ![0, 0] g slices_S256x2048_o0_0_S256x1024) u)
        (addf (extractStridedSlice S256x1024 ![0, 1024] g slices_S256x2048_o0_1024_S256x1024) v))) bitsLt_bf16_f32)
    0x00000000#32 reduces_S256x1024_S256 (.inl rfl) rfl) shapeCasts_S256_S256x1) bitsLt_bf16_f32) bitsLt_bf16_f32

/-- The child the match sends the row to. -/
def child (ix : Ix) (t : Num F) : Ix :=
  addi (muli (broadcast S256x1 2#32) ix) (extui 32 (cmpf .ole t (broadcast S256x1 (Scalar.ofBits .f32 0x3F800000#32))) natLt_1_32)

/-- The level's term of the sum behind the score. -/
def more (acc t : Num F) : Num F :=
  addf acc (minimumf t (divf (broadcast S256x1 (Scalar.ofBits .f32 0x3F800000#32)) t))

/-- One level: the node's row, its match, the child, the sum. -/
def level (u v : FVec F S256x1024 .bf16) (pick : Ix → FVec F S256x2048 .bf16) (st : Ix × Num F) : Ix × Num F :=
  (child st.1 (ratio u v (pick st.1)), more st.2 (ratio u v (pick st.1)))

/-- One head: eight levels from the root. -/
def head (u v : FVec F S256x1024 .bf16) (e : Table F) (acc : Num F) : Ix × Num F :=
  level u v (pick128 e) (level u v (pick64 e) (level u v (pick32 e) (level u v (pick16 e)
    (level u v (pick8 e) (level u v (pick4 e) (level u v (pick2 e) (level u v (pick1 e) (broadcast S256x1 0#32, acc))))))))

/-- The queries' exponentials. -/
def falling (q : FVec F S256x1024 .f32) : FVec F S256x1024 .bf16 :=
  truncf .bf16 (exp (subf (broadcast S256x1024 (Scalar.ofBits .f32 0x00000000#32)) q)) bitsLt_bf16_f32
def rising (q : FVec F S256x1024 .f32) : FVec F S256x1024 .bf16 := truncf .bf16 (exp q) bitsLt_bf16_f32

/-- A head's table, as it is kept. -/
abbrev Kept (F : FTy → Type) := Vec F S1x272x2048 .bf16
def table (k : Kept F) : Table F := shapeCast S272x2048 k shapeCasts_S1x272x2048_S272x2048

/-- The leaf of every row in the head kept at `k`. -/
def leaf (q : FVec F S256x1024 .f32) (k : Kept F) : Ix :=
  (head (falling q) (rising q) (table k) (broadcast S256x1 (Scalar.ofBits .f32 0x00000000#32))).1

/-- The value rows the leaves name. -/
def valued (ix : Ix) (v : Vec F S1x256x1024 .f32) : FVec F S256x1x1024 .f32 :=
  shapeCast S256x1x1024 (matmul dot_S256x256_S256x1024_S256x1024_1_0_0_1_n_n none
    (sitofp .f32 (extui 32 (cmpi .eq (iota .tc S256x256 32 [1] iota_S256x256_d1_w32) (broadcastTo S256x256 ix broadcasts_S256x1_S256x256)) natLt_1_32))
    (shapeCast S256x1024 v shapeCasts_S1x256x1024_S256x1024) (constant S256x1024 .f32 0x00000000#32)) shapeCasts_S256x1024_S256x1x1024

/-- The sum behind the score, over the first `n` heads. -/
def total (q : FVec F S256x1024 .f32) (k : ℕ → Kept F) : ℕ → Num F
  | 0 => broadcast S256x1 (Scalar.ofBits .f32 0x00000000#32)
  | n + 1 => (head (falling q) (rising q) (table (k n)) (total q k n)).2

/-- The score of every row. -/
def score (q : FVec F S256x1024 .f32) (k : ℕ → Kept F) : Num F :=
  subf (broadcast S256x1 (Scalar.ofBits .f32 0x00000000#32)) (log (total q k 8))

end Cert.KernelIdeal.Walk

end
-- ==== Proof.BodyI.lean ====
/- The walking points of the kernel's grid: what one leaves in the two results' blocks. -/
module

public import proofs.«01_k».proof.Proof.Walk
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 100000

noncomputable section

namespace Cert.KernelIdeal.Body

open Cert.KernelIdeal.Gen Cert.KernelIdeal.Walk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table is written at the first eight points. -/
theorem writes_iff : ∀ t : Fin cfg0.N, k0_cond1 (grid0.coords t) = 1#1 ↔ t.val < 8 :=
  (by decide +kernel : ∀ t : Fin grid0.N, k0_cond1 (grid0.coords t) = 1#1 ↔ t.val < 8)

/-- The trees are walked at the last eight points. -/
theorem walks_iff : ∀ t : Fin cfg0.N, k0_cond2 (grid0.coords t) = 1#1 ↔ 8 ≤ t.val :=
  (by decide +kernel : ∀ t : Fin grid0.N, k0_cond2 (grid0.coords t) = 1#1 ↔ 8 ≤ t.val)

/-- A whole buffer at some contents. -/
abbrev anyAt (c : Dev nD) {sp : Space} {s : Shape} {e : EltTy} (r : Memref sig .tc sp s e) : sProp 𝕄 :=
  iprop(∃ d, owns (c : Thread nD τ) r fullShare d)

/-- Head `n`'s table in the scratch. -/
def slab (s : Vec F S8x272x2048 .bf16) (n : ℕ) : Kept F :=
  fun j => s (fun a => match a with | ⟨0, _⟩ => ⟨n % 8, Nat.mod_lt _ (by decide)⟩ | ⟨1, _⟩ => j 1 | ⟨2, _⟩ => j 2)

/-- Head `n`'s value rows. -/
def shelf (x : Vec F S8x256x1024 .f32) (n : ℕ) : Vec F S1x256x1024 .f32 :=
  fun j => x (fun a => match a with | ⟨0, _⟩ => ⟨n % 8, Nat.mod_lt _ (by decide)⟩ | ⟨1, _⟩ => j 1 | ⟨2, _⟩ => j 2)

/-- The block of the second result: each row's value rows, head by head. -/
def found (q : Vec F S256x1024 .f32) (s : Vec F S8x272x2048 .bf16) (x : Vec F S8x256x1024 .f32) : Vec F S256x8x1024 .f32 :=
  fun y => valued (leaf q (slab s (y 1).val)) (shelf x (y 1).val)
    (fun a => match a with | ⟨0, _⟩ => y 0 | ⟨1, _⟩ => (0 : Fin 1) | ⟨2, _⟩ => y 2)

theorem all_of (r : Memref sig .tc .vmem S256x1024 .f32) (w : r.IsWhole) (x : Vec F S256x1024 .f32) (inb) :
    View.readAt (Elt F) r.view (Rect.unit (s := S256x1024) ![0, 0] S256x1024.size inb).toLoadRect (w.unread x) = x := by
  funext y
  show r.view.read (Elt F) (w.unread x) _ = _
  rw [w.read_unread]
  refine congrArg x (funext fun a => Fin.ext ?_)
  show (![0, 0] : Fin 2 → ℕ) a + 1 * (y a).val = _
  fin_cases a <;> simp

theorem slab_of (r : Memref sig .tc .vmem S8x272x2048 .bf16) (w : r.IsWhole) (s : Vec F S8x272x2048 .bf16) (n : ℕ) (h : n < 8) (inb) :
    View.readAt (Elt F) r.view (Rect.unit (s := S8x272x2048) ![n, 0, 0] S1x272x2048.size inb).toLoadRect (w.unread s) = slab s n := by
  funext y
  show r.view.read (Elt F) (w.unread s) _ = _
  rw [w.read_unread]
  refine congrArg s (funext fun a => Fin.ext ?_)
  have y0 : (y 0).val = 0 := by have : (y 0).val < 1 := (y 0).isLt; omega
  show (![n, 0, 0] : Fin 3 → ℕ) a + 1 * (y a).val = _
  fin_cases a
  · show n + 1 * (y 0).val = n % 8; omega
  · show 0 + 1 * (y 1).val = (y 1).val; omega
  · show 0 + 1 * (y 2).val = (y 2).val; omega

theorem shelf_of (r : Memref sig .tc .vmem S8x256x1024 .f32) (w : r.IsWhole) (x : Vec F S8x256x1024 .f32) (n : ℕ) (h : n < 8) (inb) :
    View.readAt (Elt F) r.view (Rect.unit (s := S8x256x1024) ![n, 0, 0] S1x256x1024.size inb).toLoadRect (w.unread x) = shelf x n := by
  funext y
  show r.view.read (Elt F) (w.unread x) _ = _
  rw [w.read_unread]
  refine congrArg x (funext fun a => Fin.ext ?_)
  have y0 : (y 0).val = 0 := by have : (y 0).val < 1 := (y 0).isLt; omega
  show (![n, 0, 0] : Fin 3 → ℕ) a + 1 * (y a).val = _
  fin_cases a
  · show n + 1 * (y 0).val = n % 8; omega
  · show 0 + 1 * (y 1).val = (y 1).val; omega
  · show 0 + 1 * (y 2).val = (y 2).val; omega

/-- The tables as a walking point reads them. -/
def kept (r6 : Memref sig .tc .vmem S8x272x2048 .bf16) (f : r6.view.ty.Contents (Elt F)) (n : ℕ) : Kept F :=
  View.readAt (Elt F) r6.view (Rect.unit (s := S8x272x2048) ![n % 8, 0, 0] S1x272x2048.size (fun a => by
    have : n % 8 < 8 := Nat.mod_lt _ (by decide)
    fin_cases a <;> simp [S8x272x2048, S1x272x2048] <;> omega)).toLoadRect f

theorem kept_eq (r : Memref sig .tc .vmem S8x272x2048 .bf16) (w : r.IsWhole) (s : Vec F S8x272x2048 .bf16) :
    kept r (w.unread s) = slab s := by
  funext n
  unfold kept
  rw [slab_of _ _ _ _ (Nat.mod_lt _ (by decide))]
  unfold slab
  simp only [Nat.mod_mod]

/-- The rectangle of head `n`'s rows in the block of the second result. -/
theorem found_under (q : Vec F S256x1024 .f32) (s : Vec F S8x272x2048 .bf16) (v : Vec F S8x256x1024 .f32)
    (r2 : Memref sig .tc .vmem S256x1024 .f32) (w2 : r2.IsWhole) (r3 : Memref sig .tc .vmem S8x256x1024 .f32) (w3 : r3.IsWhole)
    (r6 : Memref sig .tc .vmem S8x272x2048 .bf16) (w6 : r6.IsWhole) (n : ℕ) (h : n < 8) (inb inq ins inv)
    (x : (Rect.unit (s := S256x8x1024) ![0, n, 0] S256x1x1024.size inb).shape.Idx) :
    valued (leaf (View.readAt (Elt F) r2.view (Rect.unit (s := S256x1024) ![0, 0] S256x1024.size inq).toLoadRect (w2.unread q))
        (View.readAt (Elt F) r6.view (Rect.unit (s := S8x272x2048) ![n, 0, 0] S1x272x2048.size ins).toLoadRect (w6.unread s)))
      (View.readAt (Elt F) r3.view (Rect.unit (s := S8x256x1024) ![n, 0, 0] S1x256x1024.size inv).toLoadRect (w3.unread v)) x
      = found q s v ((Rect.unit (s := S256x8x1024) ![0, n, 0] S256x1x1024.size inb).emb x) := by
  have x1 : (x 1).val = 0 := by have : (x 1).val < 1 := (x 1).isLt; omega
  have e : ((Rect.unit (s := S256x8x1024) ![0, n, 0] S256x1x1024.size inb).emb x 1).val = n := by
    show n + 1 * (x 1).val = n; omega
  unfold found
  rw [e, all_of, slab_of _ _ _ _ h, shelf_of _ _ _ _ h]
  refine congrArg _ (funext fun a => Fin.ext ?_)
  fin_cases a
  · show (x 0).val = 0 + 1 * (x 0).val; omega
  · show (x 1).val = 0; omega
  · show (x 2).val = 0 + 1 * (x 2).val; omega

set_option maxHeartbeats 4000000 in
/-- A walking point: the scores and the value rows of its queries, the inputs and the tables as they were. -/
theorem walks (c : Dev nD) (i : grid0.Coords)
    (r1 : Memref sig .tc .vmem S1x255x2x1024 .f32) (w1 : r1.IsWhole) (r2 : Memref sig .tc .vmem S256x1024 .f32) (w2 : r2.IsWhole)
    (r3 : Memref sig .tc .vmem S8x256x1024 .f32) (w3 : r3.IsWhole) (r4 : Memref sig .tc .vmem S256x1 .f32) (w4 : r4.IsWhole)
    (r5 : Memref sig .tc .vmem S256x8x1024 .f32) (w5 : r5.IsWhole) (r6 : Memref sig .tc .vmem S8x272x2048 .bf16) (w6 : r6.IsWhole)
    (off : ¬k0_cond1 i = 1#1) (on : k0_cond2 i = 1#1)
    (x1 : Vec F S1x255x2x1024 .f32) (x2 : Vec F S256x1024 .f32) (x3 : Vec F S8x256x1024 .f32) (s : Vec F S8x272x2048 .bf16)
    (E : Set ℕ) (K : PUnit → sProp 𝕄) :
    iprop(owns (c : Thread nD τ) r1 fullShare x1 ∗ owns (c : Thread nD τ) r2 fullShare x2 ∗ owns (c : Thread nD τ) r3 fullShare x3
        ∗ anyAt c r4 ∗ anyAt c r5 ∗ owns (c : Thread nD τ) r6 fullShare s
        ∗ (iprop(owns (c : Thread nD τ) r1 fullShare x1 ∗ owns (c : Thread nD τ) r2 fullShare x2 ∗ owns (c : Thread nD τ) r3 fullShare x3
            ∗ owns (c : Thread nD τ) r4 fullShare (score x2 (slab s)) ∗ owns (c : Thread nD τ) r5 fullShare (found x2 s x3)
            ∗ owns (c : Thread nD τ) r6 fullShare s) -∗ K ⟨⟩))
      ⊢ wp frame (wpE (defs₀ (F := F)) Variants.none c none) E (cc0__tree_kernel i r1 w1 r2 w2 r3 w3 r4 w4 r5 w5 r6 w6) K := by
  simp only [cc0__tree_kernel_eq_skeleton]; unfold cc0__tree_kernel_skel
  simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
  unfold anyAt owns
  iintro ⟨⟨%f1, %e1, H1⟩, ⟨%f2, %e2, H2⟩, ⟨%f3, %e3, H3⟩, ⟨%d4, %f4, -, H4⟩, ⟨%d5, %f5, -, H5⟩, ⟨%f6, %e6, H6⟩, Hk⟩
  obtain rfl := w1.eq_unread e1; obtain rfl := w2.eq_unread e2; obtain rfl := w3.eq_unread e3; obtain rfl := w6.eq_unread e6
  sl_exec (disch := first | sl_exact on | sl_exact off)

  sl_step
  iapply Hk
  isplitl [H1]
  · iexists _; isplitr; · ipureintro; exact w1.read_unread _
    iexact H1
  isplitl [H2]
  · iexists _; isplitr; · ipureintro; exact w2.read_unread _
    iexact H2
  isplitl [H3]
  · iexists _; isplitr; · ipureintro; exact w3.read_unread _
    iexact H3
  isplitl [H4]
  · iexists _; isplitr; swap; · iexact H4
    ipureintro
    funext y
    refine (View.read_writes_cons_hit_of_coords r4.view f4 _ _ _ y y (fun a => ?_)).trans ?_
    · show (y a).val = (![0, 0] : Fin 2 → ℕ) a + 1 * (y a).val
      fin_cases a <;> simp
    · refine Eq.trans (b := score (View.readAt (Elt F) r2.view (Rect.unit (s := S256x1024) ![0, 0] S256x1024.size inb_S256x1024_S256x1024_0_0).toLoadRect (w2.unread x2))
        (kept r6 (w6.unread s)) y) rfl ?_
      rw [all_of]
      rw [kept_eq]
  isplitl [H5]
  · iexists _; isplitr; swap; · iexact H5
    ipureintro
    funext y
    refine View.read_writes_apply_of_pieces r5.view f5 (found x2 s x3) _ ?_ y ?_
    · simp only [List.forall_mem_cons]
      refine ⟨?_, ?_, ?_, ?_, ?_, ?_, ?_, ?_, fun _ h => absurd h List.not_mem_nil⟩
      all_goals exact fun x => found_under x2 s x3 r2 w2 r3 w3 r6 w6 _ (by decide) _ _ _ _ x
    · exact View.cover_of_tiled _ ![256, 1, 1024] rfl y
  iexists _; isplitr; swap; · iexact H6
  ipureintro; exact w6.read_unread _

end Cert.KernelIdeal.Body

end
-- ==== Proof.WriteI.lean ====
/- The table-writing points of the kernel's grid: what one leaves in the scratch. -/
module

public import proofs.«01_k».proof.Proof.BodyI
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.Value
public import Idealize.ShloMosaic.Lib.Pointwise.Reshape

@[expose] public section

set_option maxRecDepth 100000

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The node a table row is of. Row 0 is the root's; the levels below begin at rows 8, 16, 24, 32, 48, 80 and 144. -/
def node (r : ℕ) : ℕ :=
  if r < 8 then 0 else if r < 16 then 1 + (r - 8) else if r < 24 then 3 + (r - 16) else if r < 32 then 7 + (r - 24)
  else if r < 48 then 15 + (r - 32) else if r < 80 then 31 + (r - 48) else if r < 144 then 63 + (r - 80) else 127 + (r - 144)

/-- The table rows that are of a node; the others are padding. -/
def Used (r : ℕ) : Prop := r = 0 ∨ (8 ≤ r ∧ r < 10) ∨ (16 ≤ r ∧ r < 20) ∨ 24 ≤ r

theorem node_lt {r : ℕ} (h : r < 272) : node r < 255 := by unfold node; split_ifs <;> omega

/-- The exponential the table holds at a place, of a head's keys. -/
def noted (x : Vec F S1x255x2x1024 .f32) (y : S8x272x2048.Idx) : Elt F .bf16 :=
  FloatOps.truncf .bf16 bitsLt_bf16_f32 (FloatOps.exp (FloatOps.subf (Scalar.ofBits .f32 0x00000000#32) (x fun a => match a with
    | ⟨0, _⟩ => (0 : Fin 1)
    | ⟨1, _⟩ => ⟨node (y 1).val, node_lt (y 1).isLt⟩
    | ⟨2, _⟩ => ⟨(y 2).val / 1024, by have : (y 2).val < 2048 := (y 2).isLt; show _ < 2; omega⟩
    | ⟨3, _⟩ => ⟨(y 2).val % 1024, Nat.mod_lt _ (by decide)⟩)))

/-- The scratch `s'` is `s` with head `n`'s table written, from the keys `x`. -/
def Noted (x : Vec F S1x255x2x1024 .f32) (n : ℕ) (s s' : Vec F S8x272x2048 .bf16) : Prop :=
  ∀ y : S8x272x2048.Idx, ((y 0).val ≠ n → s' y = s y) ∧ ((y 0).val = n → Used (y 1).val → s' y = noted x y)

/-- Where every piece that covers a place of a set agrees with `G` there, so does what the pieces leave. -/
theorem read_of_agreeing {sig' : RefSig} {κ : Kind} {sp : Space} {s : Shape} {e : EltTy} {Val : EltTy → Type} (v : View sig' κ sp s e)
    (f : v.ty.Contents Val) (P : s.Idx → Prop) (G : s.Idx → Val e) (L : List (View.Piece Val s e))
    (hG : ∀ p ∈ L, ∀ x : p.1.shape.Idx, P (p.1.emb x) → p.2 x = G (p.1.emb x)) (y : s.Idx) (hy : P y) (cover : ∃ p ∈ L, y ∈ p.1.set) :
    v.read Val (v.writes Val f L) y = G y := by
  induction L with
  | nil => obtain ⟨_, h, _⟩ := cover; exact absurd h List.not_mem_nil
  | cons p L ih =>
    by_cases h : y ∈ p.1.set
    · obtain ⟨x, rfl⟩ := p.1.exists_idx_of_mem h
      exact (View.read_writes_cons_emb v f p.1 p.2 L x).trans (hG p List.mem_cons_self x hy)
    · obtain ⟨q, hq, hyq⟩ := cover
      have hq' : q ∈ L := (List.mem_cons.mp hq).resolve_left fun e => h (e ▸ hyq)
      refine (View.read_slice_write_of_not_mem p.1 _ _ _ (by rwa [Rect.map_emb_univ])).trans ?_
      exact ih (fun p' h' => hG p' (List.mem_cons_of_mem _ h')) ⟨q, hq', hyq⟩

/-- A level's `n` nodes in one half of the table's columns: what is stored of the keys loaded. -/
def page (n half : ℕ) (v : Vec F ⟨4, ![1, n, 2, 1024]⟩ .f32) (h1 : Shape.ShapeCasts ⟨4, ![1, n, 2, 1024]⟩ ⟨3, ![n, 2, 1024]⟩)
    (h2 : Shape.Slices ⟨3, ![n, 2, 1024]⟩ ![0, half, 0] ⟨3, ![n, 1, 1024]⟩) (h3 : Shape.ShapeCasts ⟨3, ![n, 1, 1024]⟩ ⟨2, ![n, 1024]⟩)
    (h4 : Shape.ShapeCasts ⟨2, ![n, 1024]⟩ ⟨3, ![1, n, 1024]⟩) : FVec F ⟨3, ![1, n, 1024]⟩ .bf16 :=
  shapeCast ⟨3, ![1, n, 1024]⟩ (truncf .bf16 (exp (subf (broadcast ⟨2, ![n, 1024]⟩ (Scalar.ofBits .f32 0x00000000#32))
    (shapeCast ⟨2, ![n, 1024]⟩ (extractStridedSlice ⟨3, ![n, 1, 1024]⟩ ![0, half, 0]
      (shapeCast ⟨3, ![n, 2, 1024]⟩ v h1) h2) h3))) bitsLt_bf16_f32) h4

theorem page_apply (n half : ℕ) (hh : half < 2) (v : Vec F ⟨4, ![1, n, 2, 1024]⟩ .f32) (h1 h2 h3 h4)
    (x : (⟨3, ![1, n, 1024]⟩ : Shape).Idx) :
    page n half v h1 h2 h3 h4 x = FloatOps.truncf .bf16 bitsLt_bf16_f32 (FloatOps.exp (FloatOps.subf (Scalar.ofBits .f32 0x00000000#32)
      (v fun a => match a with | ⟨0, _⟩ => (0 : Fin 1) | ⟨1, _⟩ => x 1 | ⟨2, _⟩ => ⟨half, hh⟩ | ⟨3, _⟩ => x 2))) := by
  unfold page
  rw [shapeCast_apply _ h4 x (fun a => match a with | ⟨0, _⟩ => x 1 | ⟨1, _⟩ => x 2) (by
    have : (x 0).val < 1 := (x 0).isLt
    rw [rowMajor_val2 (d := ![n, 1024]) _ 1024 rfl, rowMajor_val3 (d := ![1, n, 1024]) _ (n * 1024) 1024 rfl rfl]
    show (x 1).val * 1024 + (x 2).val = (x 0).val * (n * 1024) + (x 1).val * 1024 + (x 2).val
    rw [show (x 0).val = 0 by omega]; omega)]
  refine congrArg (fun z => FloatOps.truncf .bf16 bitsLt_bf16_f32 (FloatOps.exp (FloatOps.subf (Scalar.ofBits .f32 0x00000000#32) z))) ?_
  rw [shapeCast_apply _ h3 _ (fun a => match a with | ⟨0, _⟩ => x 1 | ⟨1, _⟩ => (0 : Fin 1) | ⟨2, _⟩ => x 2) (by
    rw [rowMajor_val2 (d := ![n, 1024]) _ 1024 rfl, rowMajor_val3 (d := ![n, 1, 1024]) _ 1024 1024 rfl rfl]
    show (x 1).val * 1024 + 0 * 1024 + (x 2).val = (x 1).val * 1024 + (x 2).val
    omega)]
  rw [extractStridedSlice_apply (s := ⟨3, ![n, 2, 1024]⟩) (t := ⟨3, ![n, 1, 1024]⟩) _ _ h2 _
    (fun a => match a with | ⟨0, _⟩ => x 1 | ⟨1, _⟩ => (⟨half, hh⟩ : Fin 2) | ⟨2, _⟩ => x 2) (by
      intro a
      match a with
      | ⟨0, _⟩ => show (x 1).val = 0 + (x 1).val; omega
      | ⟨1, _⟩ => show half = half + 0; omega
      | ⟨2, _⟩ => show (x 2).val = 0 + (x 2).val; omega)]
  rw [shapeCast_apply _ h1 _ (fun a => match a with | ⟨0, _⟩ => (0 : Fin 1) | ⟨1, _⟩ => x 1 | ⟨2, _⟩ => ⟨half, hh⟩ | ⟨3, _⟩ => x 2) (by
    rw [rowMajor_val3 (d := ![n, 2, 1024]) _ 2048 1024 rfl rfl, rowMajor_val4 (d := ![1, n, 2, 1024]) _ (n * 2048) 2048 1024 rfl rfl rfl]
    show 0 * (n * 2048) + (x 1).val * 2048 + half * 1024 + (x 2).val = (x 1).val * 2048 + half * 1024 + (x 2).val
    omega)]

/-- A level's page agrees with the table, wherever it is stored. -/
theorem page_noted (n half o h : ℕ) (hh : half < 2) (hn : ∀ k < n, node (o + k) = n - 1 + k) (r : Memref sig .tc .vmem S1x255x2x1024 .f32) (w : r.IsWhole)
    (x : Vec F S1x255x2x1024 .f32) (inl : ∀ a, (![0, n - 1, 0, 0] : Fin 4 → ℕ) a + (![1, n, 2, 1024] : Fin 4 → ℕ) a ≤ S1x255x2x1024.size a) (h1 h2 h3 h4)
    (off : Fin 3 → ℕ) (inb : ∀ a, off a + (![1, n, 1024] : Fin 3 → ℕ) a ≤ S8x272x2048.size a) (hoff : off = ![h, o, half * 1024])
    (j : (⟨3, ![1, n, 1024]⟩ : Shape).Idx) (y : S8x272x2048.Idx) (hy : y = (Rect.unit (s := S8x272x2048) off ![1, n, 1024] inb).emb j) :
    page n half (View.readAt (Elt F) r.view (Rect.unit (s := S1x255x2x1024) ![0, n - 1, 0, 0] ![1, n, 2, 1024] inl).toLoadRect (w.unread x)) h1 h2 h3 h4 j
      = noted x y := by
  subst hoff
  rw [page_apply _ _ hh]
  unfold noted
  refine congrArg (fun z => FloatOps.truncf .bf16 bitsLt_bf16_f32 (FloatOps.exp (FloatOps.subf (Scalar.ofBits .f32 0x00000000#32) z))) ?_
  show r.view.read (Elt F) (w.unread x) _ = _
  rw [w.read_unread]
  have j1 : (j 1).val < n := (j 1).isLt
  have j2 : (j 2).val < 1024 := (j 2).isLt
  have y1 : (y 1).val = o + (j 1).val := by rw [hy]; show o + 1 * (j 1).val = _; omega
  have y2 : (y 2).val = half * 1024 + (j 2).val := by rw [hy]; show half * 1024 + 1 * (j 2).val = _; omega
  refine congrArg x (funext fun a => Fin.ext ?_)
  match a with
  | ⟨0, _⟩ => rfl
  | ⟨1, _⟩ => show n - 1 + 1 * (j 1).val = node (y 1).val; rw [y1, hn _ j1]; omega
  | ⟨2, _⟩ => show 0 + 1 * half = (y 2).val / 1024; omega
  | ⟨3, _⟩ => show 0 + 1 * (j 2).val = (y 2).val % 1024; omega

theorem head_word (i : grid0.Coords) : (Scalar.indexCast (BitVec.ofNat 32 (i 0).val)).toNat = (i 0).val := by
  exact (by decide : ∀ k : Fin 16, (Scalar.indexCast (BitVec.ofNat 32 k.val)).toNat = k.val) (i 0)

/-- A place whose head is not the rectangle's is outside it. -/
theorem outside (off size : Fin 3 → ℕ) (inb) (k : ℕ) (hoff : off 0 = k) (hsize : size 0 = 1) (y : S8x272x2048.Idx) (h : (y 0).val ≠ k) :
    y ∉ (Rect.unit (s := S8x272x2048) off size inb).set := by
  rw [Rect.mem_set_unit]
  intro hm
  have h0 : off 0 ≤ (y 0).val ∧ (y 0).val < off 0 + size 0 := hm 0
  omega

/-- A place of the head, of the rectangle's rows and of its columns is inside it. -/
theorem inside (k o n c : ℕ) (off size : Fin 3 → ℕ) (inb) (hoff : off = ![k, o, c]) (hsize : size = ![1, n, 1024]) (y : S8x272x2048.Idx) (h : (y 0).val = k)
    (rows : o ≤ (y 1).val ∧ (y 1).val < o + n) (columns : c ≤ (y 2).val ∧ (y 2).val < c + 1024) :
    y ∈ (Rect.unit (s := S8x272x2048) off size inb).set := by
  subst hoff hsize
  rw [Rect.mem_set_unit]
  intro a
  match a with
  | ⟨0, _⟩ => show k ≤ (y 0).val ∧ (y 0).val < k + 1; omega
  | ⟨1, _⟩ => exact rows
  | ⟨2, _⟩ => exact columns

/-- The root's page is stored with the row after it put back as it was: the root's row is the page's. -/
theorem root_noted (half h : ℕ) (hh : half < 2) (r : Memref sig .tc .vmem S1x255x2x1024 .f32) (w : r.IsWhole)
    (x : Vec F S1x255x2x1024 .f32) (inl) (h1 h2 h3 h4)
    (off : Fin 3 → ℕ) (inb : ∀ a, off a + (![1, 2, 1024] : Fin 3 → ℕ) a ≤ S8x272x2048.size a) (hoff : off = ![h, 0, half * 1024])
    (old : FVec F S1x2x1024 .bf16) (hs : Shape.Slices S1x2x1024 ![0, 0, 0] S1x1x1024)
    (j : S1x2x1024.Idx) (used : Used ((Rect.unit (s := S8x272x2048) off ![1, 2, 1024] inb).emb j 1).val) :
    updateSlice old (page 1 half (View.readAt (Elt F) r.view (Rect.unit (s := S1x255x2x1024) ![0, 0, 0, 0] ![1, 1, 2, 1024] inl).toLoadRect (w.unread x)) h1 h2 h3 h4)
        ![0, 0, 0] hs j
      = noted x ((Rect.unit (s := S8x272x2048) off ![1, 2, 1024] inb).emb j) := by
  subst hoff
  have j1 : (j 1).val < 2 := (j 1).isLt
  have e : ((Rect.unit (s := S8x272x2048) ![h, 0, half * 1024] ![1, 2, 1024] inb).emb j 1).val = (j 1).val := by
    show 0 + 1 * (j 1).val = _; omega
  have z : (j 1).val = 0 := by rw [e] at used; unfold Used at used; omega
  unfold updateSlice
  rw [dif_pos (by
    intro a
    match a with
    | ⟨0, _⟩ => exact ⟨Nat.zero_le _, by show (j 0).val < 0 + 1; have : (j 0).val < 1 := (j 0).isLt; omega⟩
    | ⟨1, _⟩ => exact ⟨Nat.zero_le _, by show (j 1).val < 0 + 1; omega⟩
    | ⟨2, _⟩ => exact ⟨Nat.zero_le _, by show (j 2).val < 0 + 1024; have : (j 2).val < 1024 := (j 2).isLt; omega⟩)]
  refine page_noted 1 half 0 h hh (by decide) r w x inl h1 h2 h3 h4 ![h, 0, half * 1024] (fun a => ?_) rfl _ _ (funext fun a => Fin.ext ?_)
  · have := inb a
    match a with
    | ⟨0, _⟩ => exact this
    | ⟨1, _⟩ => show 0 + 1 ≤ 272; omega
    | ⟨2, _⟩ => exact this
  · match a with
    | ⟨0, _⟩ => show h + 1 * (j 0).val = h + 1 * ((j 0).val - 0); omega
    | ⟨1, _⟩ => show 0 + 1 * (j 1).val = 0 + 1 * ((j 1).val - 0); omega
    | ⟨2, _⟩ => show half * 1024 + 1 * (j 2).val = half * 1024 + 1 * ((j 2).val - 0); omega

set_option maxHeartbeats 4000000 in
/-- A table-writing point: its head's table is written, the inputs and the other tables stay. -/
theorem writes (c : Dev nD) (i : grid0.Coords)
    (r1 : Memref sig .tc .vmem S1x255x2x1024 .f32) (w1 : r1.IsWhole) (r2 : Memref sig .tc .vmem S256x1024 .f32) (w2 : r2.IsWhole)
    (r3 : Memref sig .tc .vmem S8x256x1024 .f32) (w3 : r3.IsWhole) (r4 : Memref sig .tc .vmem S256x1 .f32) (w4 : r4.IsWhole)
    (r5 : Memref sig .tc .vmem S256x8x1024 .f32) (w5 : r5.IsWhole) (r6 : Memref sig .tc .vmem S8x272x2048 .bf16) (w6 : r6.IsWhole)
    (on : k0_cond1 i = 1#1) (off : ¬k0_cond2 i = 1#1)
    (x1 : Vec F S1x255x2x1024 .f32) (x2 : Vec F S256x1024 .f32) (x3 : Vec F S8x256x1024 .f32) (s : Vec F S8x272x2048 .bf16)
    (E : Set ℕ) (K : PUnit → sProp 𝕄) :
    iprop(owns (c : Thread nD τ) r1 fullShare x1 ∗ owns (c : Thread nD τ) r2 fullShare x2 ∗ owns (c : Thread nD τ) r3 fullShare x3
        ∗ owns (c : Thread nD τ) r6 fullShare s
        ∗ (iprop(owns (c : Thread nD τ) r1 fullShare x1 ∗ owns (c : Thread nD τ) r2 fullShare x2 ∗ owns (c : Thread nD τ) r3 fullShare x3
            ∗ (∃ s', ⌜Noted x1 (i 0).val s s'⌝ ∗ owns (c : Thread nD τ) r6 fullShare s')) -∗ K ⟨⟩))
      ⊢ wp frame (wpE (defs₀ (F := F)) Variants.none c none) E (cc0__tree_kernel i r1 w1 r2 w2 r3 w3 r4 w4 r5 w5 r6 w6) K := by
  simp only [cc0__tree_kernel_eq_skeleton]; unfold cc0__tree_kernel_skel
  simp only [k0_part1_eq_skeleton, k0_part2_eq_skeleton, k0_part3_eq_skeleton, k0_part4_eq_skeleton]
  unfold owns
  iintro ⟨⟨%f1, %e1, H1⟩, ⟨%f2, %e2, H2⟩, ⟨%f3, %e3, H3⟩, ⟨%f6, %e6, H6⟩, Hk⟩
  obtain rfl := w1.eq_unread e1; obtain rfl := w2.eq_unread e2; obtain rfl := w3.eq_unread e3; obtain rfl := w6.eq_unread e6
  sl_exec (disch := first | sl_exact on | sl_exact off)
  sl_step
  iapply Hk
  isplitl [H1]
  · iexists _; isplitr; · ipureintro; exact w1.read_unread _
    iexact H1
  isplitl [H2]
  · iexists _; isplitr; · ipureintro; exact w2.read_unread _
    iexact H2
  isplitl [H3]
  · iexists _; isplitr; · ipureintro; exact w3.read_unread _
    iexact H3
  iexists _; isplitr; swap
  · iexists _; isplitr; swap; · iexact H6
    ipureintro; rfl
  ipureintro
  intro y
  refine ⟨fun other => ?_, fun same used => ?_⟩
  · refine (View.read_writes_apply_of_forall_not_mem r6.view _ y _ ?_).trans (congrFun (w6.read_unread s) y)
    simp only [List.forall_mem_cons]
    refine ⟨?_, ?_, ?_, ?_, ?_, ?_, ?_, ?_, ?_, ?_, ?_, ?_, ?_, ?_, ?_, ?_, fun _ h => absurd h List.not_mem_nil⟩
    all_goals exact outside _ _ _ _ (head_word i) rfl y other
  · refine read_of_agreeing r6.view _ (fun y => (y 0).val = (i 0).val ∧ Used (y 1).val) (noted x1) _ ?_ y ⟨same, used⟩ ?_
    · simp only [List.forall_mem_cons]
      exact ⟨fun x _ => page_noted 128 1 144 _ (by decide) (by decide) r1 w1 x1 _ _ _ _ _ (k0_off18 i) _ rfl x _ rfl,
        fun x _ => page_noted 128 0 144 _ (by decide) (by decide) r1 w1 x1 _ _ _ _ _ (k0_off17 i) _ rfl x _ rfl,
        fun x _ => page_noted 64 1 80 _ (by decide) (by decide) r1 w1 x1 _ _ _ _ _ (k0_off16 i) _ rfl x _ rfl,
        fun x _ => page_noted 64 0 80 _ (by decide) (by decide) r1 w1 x1 _ _ _ _ _ (k0_off15 i) _ rfl x _ rfl,
        fun x _ => page_noted 32 1 48 _ (by decide) (by decide) r1 w1 x1 _ _ _ _ _ (k0_off14 i) _ rfl x _ rfl,
        fun x _ => page_noted 32 0 48 _ (by decide) (by decide) r1 w1 x1 _ _ slices_S32x2x1024_o0_0_0_S32x1x1024 _ _ (k0_off13 i) _ rfl x _ rfl,
        fun x _ => page_noted 16 1 32 _ (by decide) (by decide) r1 w1 x1 _ _ _ _ _ (k0_off12 i) _ rfl x _ rfl,
        fun x _ => page_noted 16 0 32 _ (by decide) (by decide) r1 w1 x1 _ _ _ _ _ (k0_off11 i) _ rfl x _ rfl,
        fun x _ => page_noted 8 1 24 _ (by decide) (by decide) r1 w1 x1 _ _ _ _ _ (k0_off10 i) _ rfl x _ rfl,
        fun x _ => page_noted 8 0 24 _ (by decide) (by decide) r1 w1 x1 _ _ _ _ _ (k0_off9 i) _ rfl x _ rfl,
        fun x _ => page_noted 4 1 16 _ (by decide) (by decide) r1 w1 x1 _ _ _ _ _ (k0_off8 i) _ rfl x _ rfl,
        fun x _ => page_noted 4 0 16 _ (by decide) (by decide) r1 w1 x1 _ _ _ _ _ (k0_off7 i) _ rfl x _ rfl,
        fun x _ => page_noted 2 1 8 _ (by decide) (by decide) r1 w1 x1 _ _ _ _ _ (k0_off6 i) _ rfl x _ rfl,
        fun x _ => page_noted 2 0 8 _ (by decide) (by decide) r1 w1 x1 _ _ _ _ _ (k0_off5 i) _ rfl x _ rfl,
        fun x hx => root_noted 1 _ (by decide) r1 w1 x1 _ _ _ _ _ (k0_off4 i) _ rfl _ _ x hx.2,
        fun x hx => root_noted 0 _ (by decide) r1 w1 x1 _ _ _ _ _ (k0_off2 i) _ rfl _ _ x hx.2,
        fun _ h => absurd h List.not_mem_nil⟩
    · by_contra none
      simp only [not_exists, not_and, List.forall_mem_cons] at none
      obtain ⟨n1, n2, n3, n4, n5, n6, n7, n8, n9, n10, n11, n12, n13, n14, n15, n16, -⟩ := none
      have y1 : (y 1).val < 272 := (y 1).isLt
      have y2 : (y 2).val < 2048 := (y 2).isLt
      have place : (y 0).val = (Scalar.indexCast (BitVec.ofNat 32 (i 0).val)).toNat := same.trans (head_word i).symm
      have half : 1024 ≤ (y 2).val ∨ (y 2).val < 1024 := by omega
      have rows : 144 ≤ (y 1).val ∨ (80 ≤ (y 1).val ∧ (y 1).val < 144) ∨ (48 ≤ (y 1).val ∧ (y 1).val < 80)
          ∨ (32 ≤ (y 1).val ∧ (y 1).val < 48) ∨ (24 ≤ (y 1).val ∧ (y 1).val < 32) ∨ (16 ≤ (y 1).val ∧ (y 1).val < 20)
          ∨ (8 ≤ (y 1).val ∧ (y 1).val < 10) ∨ (y 1).val = 0 := by unfold Used at used; omega
      rcases rows with rows | rows | rows | rows | rows | rows | rows | rows <;> rcases half with half | half
      exacts [n1 (inside _ 144 128 1024 _ _ _ rfl rfl y place (by omega) (by omega)),
        n2 (inside _ 144 128 0 _ _ _ rfl rfl y place (by omega) (by omega)),
        n3 (inside _ 80 64 1024 _ _ _ rfl rfl y place (by omega) (by omega)),
        n4 (inside _ 80 64 0 _ _ _ rfl rfl y place (by omega) (by omega)),
        n5 (inside _ 48 32 1024 _ _ _ rfl rfl y place (by omega) (by omega)),
        n6 (inside _ 48 32 0 _ _ _ rfl rfl y place (by omega) (by omega)),
        n7 (inside _ 32 16 1024 _ _ _ rfl rfl y place (by omega) (by omega)),
        n8 (inside _ 32 16 0 _ _ _ rfl rfl y place (by omega) (by omega)),
        n9 (inside _ 24 8 1024 _ _ _ rfl rfl y place (by omega) (by omega)),
        n10 (inside _ 24 8 0 _ _ _ rfl rfl y place (by omega) (by omega)),
        n11 (inside _ 16 4 1024 _ _ _ rfl rfl y place (by omega) (by omega)),
        n12 (inside _ 16 4 0 _ _ _ rfl rfl y place (by omega) (by omega)),
        n13 (inside _ 8 2 1024 _ _ _ rfl rfl y place (by omega) (by omega)),
        n14 (inside _ 8 2 0 _ _ _ rfl rfl y place (by omega) (by omega)),
        n15 (inside _ 0 2 1024 _ _ _ rfl rfl y place (by omega) (by omega)),
        n16 (inside _ 0 2 0 _ _ _ rfl rfl y place (by omega) (by omega))]

end Cert.KernelIdeal.Body

end
-- ==== Proof.LaunchI.lean ====
/- The kernel run as a whole: the scratch followed from point to point, what the two results hold at the end, and that
   the arguments are left alone. -/
module

public import proofs.«01_k».proof.Proof.WriteI
public import Idealize.ShloMosaic.Lib.Claim

@[expose] public section

set_option maxRecDepth 100000

noncomputable section

namespace Cert.KernelIdeal.Body

open Cert.KernelIdeal.Gen Cert.KernelIdeal.Walk Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The padding rows are never read -/

/-- Two tables that agree but for the padding. -/
def Agree (e e' : Table F) : Prop := ∀ y : S272x2048.Idx, Used (y 0).val → e y = e' y

theorem slice_agree {e e' : Table F} (A : Agree e e') {n : ℕ} (off : ℕ) (h : S272x2048.Slices ![off, 0] ⟨2, ![n, 2048]⟩)
    (used : ∀ r < n, Used (off + r)) :
    extractStridedSlice ⟨2, ![n, 2048]⟩ ![off, 0] e h = extractStridedSlice ⟨2, ![n, 2048]⟩ ![off, 0] e' h := by
  funext j
  exact A _ (used (j 0).val (j 0).isLt)

theorem used_from {off : ℕ} (h : 24 ≤ off) (n : ℕ) : ∀ r < n, Used (off + r) := fun _ _ => .inr (.inr (.inr (by omega)))
theorem used_one {off : ℕ} (h : Used off) : ∀ r < 1, Used (off + r) := fun r hr => by rwa [show r = 0 by omega]

variable {e e' : Table F}

theorem pick1_agree (A : Agree e e') : pick1 e = pick1 e' := by
  funext ix; unfold pick1; rw [slice_agree (n := 1) A 0 _ (used_one (by unfold Used; omega))]
theorem pick2_agree (A : Agree e e') : pick2 e = pick2 e' := by
  funext ix; unfold pick2
  rw [slice_agree (n := 1) A 8 _ (used_one (by unfold Used; omega)), slice_agree (n := 1) A 9 _ (used_one (by unfold Used; omega))]
theorem pick4_agree (A : Agree e e') : pick4 e = pick4 e' := by
  funext ix; unfold pick4
  rw [slice_agree (n := 1) A 16 _ (used_one (by unfold Used; omega)), slice_agree (n := 1) A 17 _ (used_one (by unfold Used; omega)),
    slice_agree (n := 1) A 18 _ (used_one (by unfold Used; omega)), slice_agree (n := 1) A 19 _ (used_one (by unfold Used; omega))]
theorem pick8_agree (A : Agree e e') : pick8 e = pick8 e' := by
  funext ix; unfold pick8; rw [slice_agree (n := 8) A 24 _ (used_from (by omega) _)]
theorem pick16_agree (A : Agree e e') : pick16 e = pick16 e' := by
  funext ix; unfold pick16; rw [slice_agree (n := 16) A 32 _ (used_from (by omega) _)]
theorem pick32_agree (A : Agree e e') : pick32 e = pick32 e' := by
  funext ix; unfold pick32; rw [slice_agree (n := 32) A 48 _ (used_from (by omega) _)]
theorem pick64_agree (A : Agree e e') : pick64 e = pick64 e' := by
  funext ix; unfold pick64; rw [slice_agree (n := 64) A 80 _ (used_from (by omega) _)]
theorem pick128_agree (A : Agree e e') : pick128 e = pick128 e' := by
  funext ix; unfold pick128; rw [slice_agree (n := 128) A 144 _ (used_from (by omega) _)]

theorem head_agree (u v : FVec F S256x1024 .bf16) (A : Agree e e') (acc : Num F) : head u v e acc = head u v e' acc := by
  unfold head
  rw [pick1_agree A, pick2_agree A, pick4_agree A, pick8_agree A, pick16_agree A, pick32_agree A, pick64_agree A, pick128_agree A]

/-- Two scratches that agree but for the padding. -/
def Alike (s s' : Vec F S8x272x2048 .bf16) : Prop := ∀ y : S8x272x2048.Idx, Used (y 1).val → s y = s' y

theorem table_apply (k : Kept F) (y : S272x2048.Idx) :
    table k y = k (fun a => match a with | ⟨0, _⟩ => (0 : Fin 1) | ⟨1, _⟩ => y 0 | ⟨2, _⟩ => y 1) := by
  unfold table
  rw [shapeCast_apply _ shapeCasts_S1x272x2048_S272x2048 y (fun a => match a with | ⟨0, _⟩ => (0 : Fin 1) | ⟨1, _⟩ => y 0 | ⟨2, _⟩ => y 1) (by
    rw [rowMajor_val2 (d := ![272, 2048]) _ 2048 rfl, rowMajor_val3 (d := ![1, 272, 2048]) _ (272 * 2048) 2048 rfl rfl]
    show 0 * (272 * 2048) + (y 0).val * 2048 + (y 1).val = (y 0).val * 2048 + (y 1).val
    omega)]

theorem table_agree {s s' : Vec F S8x272x2048 .bf16} (A : Alike s s') (n : ℕ) : Agree (table (slab s n)) (table (slab s' n)) := by
  intro y used
  rw [table_apply, table_apply]
  exact A _ used

theorem leaf_alike {s s' : Vec F S8x272x2048 .bf16} (A : Alike s s') (q : FVec F S256x1024 .f32) (n : ℕ) :
    leaf q (slab s n) = leaf q (slab s' n) := by
  unfold leaf; rw [head_agree _ _ (table_agree A n)]

theorem found_alike {s s' : Vec F S8x272x2048 .bf16} (A : Alike s s') (q : FVec F S256x1024 .f32) (x : Vec F S8x256x1024 .f32) :
    found q s x = found q s' x := by
  funext y; unfold found; rw [leaf_alike A]

theorem total_alike {s s' : Vec F S8x272x2048 .bf16} (A : Alike s s') (q : FVec F S256x1024 .f32) (n : ℕ) :
    total q (slab s) n = total q (slab s') n := by
  induction n with
  | zero => rfl
  | succ n ih => unfold total; rw [ih, head_agree _ _ (table_agree A n)]

theorem score_alike {s s' : Vec F S8x272x2048 .bf16} (A : Alike s s') (q : FVec F S256x1024 .f32) :
    score q (slab s) = score q (slab s') := by
  unfold score; rw [total_alike A]

/-! ## The scratch from point to point -/

variable (m : (ℓ : Loc nD τ sig) → Buf (Elt F) ℓ) (ρ : Dev nD → PrngReg)

/-- The point that writes head `h`'s table. -/
def writer (h : Fin 8) : Fin cfg0.N := ⟨h.val, lt_of_lt_of_le h.isLt (by decide : 8 ≤ grid0.N)⟩

/-- All eight tables. -/
def tables (c : Dev nD) : Vec F S8x272x2048 .bf16 := fun y => noted (iblk m c 0 (writer (y 0))) y

/-- The scratch `s` holds the tables of the heads below `n`. -/
def Upto (c : Dev nD) (n : ℕ) (s : Vec F S8x272x2048 .bf16) : Prop :=
  ∀ y : S8x272x2048.Idx, (y 0).val < n → Used (y 1).val → s y = tables m c y

theorem at_point : ∀ t : Fin cfg0.N, (grid0.coords t 0).val = t.val :=
  (by decide +kernel : ∀ t : Fin grid0.N, (grid0.coords t 0).val = t.val)

theorem upto_next (c : Dev nD) (t : Fin cfg0.N) (s s' : Vec F S8x272x2048 .bf16) (u : Upto m c t.val s)
    (h : Noted (iblk m c 0 t) (grid0.coords t 0).val s s') : Upto m c (t.val + 1) s' := by
  intro y lt used
  rw [at_point] at h
  by_cases e : (y 0).val = t.val
  · rw [(h y).2 e used]
    unfold tables
    rw [show writer (y 0) = t from Fin.ext e]
  · rw [(h y).1 e]
    exact u y (by omega) used

theorem alike_of_upto (c : Dev nD) {n : ℕ} (hn : 8 ≤ n) {s : Vec F S8x272x2048 .bf16} (u : Upto m c n s) : Alike s (tables m c) :=
  fun y used => u y (lt_of_lt_of_le (y 0).isLt hn) used

theorem upto_all (c : Dev nD) {n : ℕ} (hn : 8 ≤ n) (k : ℕ) {s : Vec F S8x272x2048 .bf16} (u : Upto m c n s) : Upto m c k s :=
  fun y _ used => u y (lt_of_lt_of_le (y 0).isLt hn) used

/-! ## The run -/

/-- What each window holds: an input its block throughout, a result the block its point computes. -/
def held (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => score (iblk m c 1 t) (slab (tables m c))
    | ⟨4, _⟩ => found (iblk m c 1 t) (tables m c) (iblk m c 2 t)
  Φ t := iprop((∃ s, ⌜Upto m c t.val s⌝ ∗ owns (c : Thread nD τ) (Memref.whole cc0_scratch0) fullShare s) ∗ (∃ r, prngReg c r))
  q _ := fullShare
  owed _ := 0

theorem held_array (c : Dev nD) (w : Fin cfg0.W) : (held m 0 c).A w = V m c (Pipeline.arrRef spec0 w) := by dsimp only [held]

theorem left_0 (c : Dev nD) (t : Fin cfg0.N) : (held m 0 c).leavesExact 0 t = owns (c : Thread nD τ) (win0_0.stage (cfg0.slots t 0)) fullShare (iblk m c 0 t) := by
  unfold Dat.leavesExact; rw [show cfg0.idle 0 (grid0.coords t) = false from rfl]; dsimp only [held]
theorem left_1 (c : Dev nD) (t : Fin cfg0.N) : (held m 0 c).leavesExact 1 t = owns (c : Thread nD τ) (win0_1.stage (cfg0.slots t 1)) fullShare (iblk m c 1 t) := by
  unfold Dat.leavesExact; rw [show cfg0.idle 1 (grid0.coords t) = false from rfl]; dsimp only [held]
theorem left_2 (c : Dev nD) (t : Fin cfg0.N) : (held m 0 c).leavesExact 2 t = owns (c : Thread nD τ) (win0_2.stage (cfg0.slots t 2)) fullShare (iblk m c 2 t) := by
  unfold Dat.leavesExact; rw [show cfg0.idle 2 (grid0.coords t) = false from rfl]; dsimp only [held]

theorem busy (t : Fin cfg0.N) (h : 8 ≤ t.val) : (!(k0_cond2 (grid0.coords t) == 1#1)) = false := by
  rw [(walks_iff t).mpr h]; rfl
theorem idle (t : Fin cfg0.N) (h : t.val < 8) : (!(k0_cond2 (grid0.coords t) == 1#1)) = true := by
  have : ¬k0_cond2 (grid0.coords t) = 1#1 := fun e => absurd ((walks_iff t).mp e) (by omega)
  simp [this]

theorem left_3 (c : Dev nD) (t : Fin cfg0.N) (h : 8 ≤ t.val) : (held m 0 c).leavesExact 3 t
    = owns (c : Thread nD τ) (win0_3.stage (cfg0.slots t 3)) fullShare (score (iblk m c 1 t) (slab (tables m c))) := by
  unfold Dat.leavesExact; rw [show cfg0.idle 3 (grid0.coords t) = false from busy t h]; dsimp only [held]
theorem left_4 (c : Dev nD) (t : Fin cfg0.N) (h : 8 ≤ t.val) : (held m 0 c).leavesExact 4 t
    = owns (c : Thread nD τ) (win0_4.stage (cfg0.slots t 4)) fullShare (found (iblk m c 1 t) (tables m c) (iblk m c 2 t)) := by
  unfold Dat.leavesExact; rw [show cfg0.idle 4 (grid0.coords t) = false from busy t h]; dsimp only [held]

/-- A result's block is written back at the walking points. -/
theorem flush_3 : ∀ t : Fin cfg0.N, (cfg0.win 3).flush t = decide (8 ≤ t.val) :=
  (by decide +kernel : ∀ t : Fin grid0.N, win0_3.flush t = decide (8 ≤ t.val))
theorem flush_4 : ∀ t : Fin cfg0.N, (cfg0.win 4).flush t = decide (8 ≤ t.val) :=
  (by decide +kernel : ∀ t : Fin grid0.N, win0_4.flush t = decide (8 ≤ t.val))

theorem kept_3 (c : Dev nD) (t : Fin cfg0.N) (h : t.val < 8) : (held m 0 c).leavesExact 3 t
    = iprop(∃ d, owns (c : Thread nD τ) (win0_3.stage (cfg0.slots t 3)) fullShare ((held m 0 c).before 3 t d)) :=
  (held m 0 c).leavesExact_idle 3 t (idle t h) (by rw [flush_3]; exact decide_eq_false (by omega))
theorem kept_4 (c : Dev nD) (t : Fin cfg0.N) (h : t.val < 8) : (held m 0 c).leavesExact 4 t
    = iprop(∃ d, owns (c : Thread nD τ) (win0_4.stage (cfg0.slots t 4)) fullShare ((held m 0 c).before 4 t d)) :=
  (held m 0 c).leavesExact_idle 4 t (idle t h) (by rw [flush_4]; exact decide_eq_false (by omega))

theorem found_0 (c : Dev nD) (t : Fin cfg0.N) (d) : (held m 0 c).before 0 t d = iblk m c 0 t :=
  before0_0_of m (held m 0 c) (held_array m c 0) (fun _ => by dsimp only [held]) t d
theorem found_1 (c : Dev nD) (t : Fin cfg0.N) (d) : (held m 0 c).before 1 t d = iblk m c 1 t :=
  before0_1_of m (held m 0 c) (held_array m c 1) (fun _ => by dsimp only [held]) t d
theorem found_2 (c : Dev nD) (t : Fin cfg0.N) (d) : (held m 0 c).before 2 t d = iblk m c 2 t :=
  before0_2_of m (held m 0 c) (held_array m c 2) (fun _ => by dsimp only [held]) t d

theorem between (c : Dev nD) (t : Fin (cfg0.N + 1)) : (held m 0 c).Φ t
    = iprop((∃ s, ⌜Upto m c t.val s⌝ ∗ owns (c : Thread nD τ) (Memref.whole cc0_scratch0) fullShare s) ∗ (∃ r, prngReg c r)) := by
  dsimp only [held]

theorem around (c : Dev nD) :
    (Pipeline.ΦA spec0 c : sProp 𝕄) = iprop(anyAt c (Memref.whole cc0_scratch0) ∗ (∃ r, prngReg c r)) := by
  unfold Pipeline.ΦA anyAt; rw [scopedRest0_eq]; simp only [owns_whole]; try rfl

theorem enter (c : Dev nD) : (Pipeline.ΦA spec0 c : sProp 𝕄) ⊢ (held m 0 c).Φ 0 := by
  rw [around, between]
  iintro ⟨⟨%s, H⟩, Hg⟩
  isplitl [H]
  · iexists s
    isplitr
    · ipureintro; exact fun y h => absurd h (Nat.not_lt_zero _)
    iexact H
  iexact Hg

theorem leave (c : Dev nD) : (held m 0 c).Φ (Fin.last cfg0.N) ⊢ (Pipeline.ΦA spec0 c : sProp 𝕄) := by
  rw [around, between]
  iintro ⟨⟨%s, -, H⟩, Hg⟩
  isplitl [H]
  · iexists s; iexact H
  iexact Hg

set_option maxHeartbeats 800000 in
/-- The body at any point, whichever of its two cases the point is in. -/
theorem point (c : Dev nD) (t : Fin cfg0.N) :
    iprop((held m 0 c).Φ t.castSucc ∗ (held m 0 c).owesAt () t.castSucc
        ∗ (∃ d, owns (c : Thread nD τ) (win0_0.stage (cfg0.slots t 0)) fullShare ((held m 0 c).before 0 t d))
        ∗ (∃ d, owns (c : Thread nD τ) (win0_1.stage (cfg0.slots t 1)) fullShare ((held m 0 c).before 1 t d))
        ∗ (∃ d, owns (c : Thread nD τ) (win0_2.stage (cfg0.slots t 2)) fullShare ((held m 0 c).before 2 t d))
        ∗ (∃ d, owns (c : Thread nD τ) (win0_3.stage (cfg0.slots t 3)) fullShare ((held m 0 c).before 3 t d))
        ∗ (∃ d, owns (c : Thread nD τ) (win0_4.stage (cfg0.slots t 4)) fullShare ((held m 0 c).before 4 t d)))
      ⊢ wp frame (wpE (defs₀ (F := F)) Variants.none c none) Set.univ (bodyAt0 t) (fun _ =>
        iprop((held m 0 c).Φ t.succ ∗ (held m 0 c).owesAt () t.castSucc
          ∗ (held m 0 c).leavesExact 0 t ∗ (held m 0 c).leavesExact 1 t ∗ (held m 0 c).leavesExact 2 t
          ∗ (held m 0 c).leavesExact 3 t ∗ (held m 0 c).leavesExact 4 t)) := by
  unfold bodyAt0
  by_cases early : t.val < 8
  · simp only [found_0, found_1, found_2, left_0, left_1, left_2, between, kept_3 m c t early, kept_4 m c t early]
    iintro ⟨⟨⟨%s, %up, Hs⟩, Hg⟩, Ho, ⟨%_, H0⟩, ⟨%_, H1⟩, ⟨%_, H2⟩, H3, H4⟩
    iapply (writes c (grid0.coords t) _ _ _ _ _ _ _ _ _ _ _ _ ((writes_iff t).mpr early) (fun e => absurd ((walks_iff t).mp e) (by omega))
      (iblk m c 0 t) (iblk m c 1 t) (iblk m c 2 t) s Set.univ _)
    isplitl [H0]; · iexact H0
    isplitl [H1]; · iexact H1
    isplitl [H2]; · iexact H2
    isplitl [Hs]; · iexact Hs
    iintro ⟨H0, H1, H2, %s', %new, Hs⟩
    isplitl [Hs Hg]
    · isplitl [Hs]
      · iexists s'
        isplitr
        · ipureintro; exact upto_next m c t s s' up new
        iexact Hs
      iexact Hg
    isplitl [Ho]; · iexact Ho
    isplitl [H0]; · iexact H0
    isplitl [H1]; · iexact H1
    isplitl [H2]; · iexact H2
    isplitl [H3]; · iexact H3
    iexact H4
  · have late : 8 ≤ t.val := by omega
    simp only [found_0, found_1, found_2, left_0, left_1, left_2, between, left_3 m c t late, left_4 m c t late]
    iintro ⟨⟨⟨%s, %up, Hs⟩, Hg⟩, Ho, ⟨%_, H0⟩, ⟨%_, H1⟩, ⟨%_, H2⟩, ⟨%_, H3⟩, ⟨%_, H4⟩⟩
    rw [← score_alike (alike_of_upto m c late up), ← found_alike (alike_of_upto m c late up)]
    iapply (walks c (grid0.coords t) _ _ _ _ _ _ _ _ _ _ _ _ (fun e => absurd ((writes_iff t).mp e) early) ((walks_iff t).mpr late)
      (iblk m c 0 t) (iblk m c 1 t) (iblk m c 2 t) s Set.univ _)
    isplitl [H0]; · iexact H0
    isplitl [H1]; · iexact H1
    isplitl [H2]; · iexact H2
    isplitl [H3]; · iexists _; iexact H3
    isplitl [H4]; · iexists _; iexact H4
    isplitl [Hs]; · iexact Hs
    iintro ⟨H0, H1, H2, H3, H4, Hs⟩
    isplitl [Hs Hg]
    · isplitl [Hs]
      · iexists s
        isplitr
        · ipureintro; exact upto_all m c late _ up
        iexact Hs
      iexact Hg
    isplitl [Ho]; · iexact Ho
    isplitl [H0]; · iexact H0
    isplitl [H1]; · iexact H1
    isplitl [H2]; · iexact H2
    isplitl [H3]; · iexact H3
    iexact H4

theorem body_row (t : Fin cfg0.N) : defs₀ (F := F) .tc cfg0.body (cfg0.bodyArgs t (cfg0.slots t)) = bodyAt0 t := by
  unfold defs₀; rw [Defs.onTc_tc]

theorem every_point (c : Dev nD) : BodyObligation (held (F := F) m 0 c) (defs₀ (F := F)) Variants.none () Set.univ := fun t => by
  rw [bigSep_W0, bigSep_W0, body_row]
  exact triple_restated (point m c t) rfl .rfl fun _ => .rfl

set_option backward.isDefEq.respectTransparency.types false in
set_option maxHeartbeats 800000 in
/-- The run from any memory at zero counters: what each array holds, what the lines after the kernel leave, and every
    counter at zero. -/
theorem run : θ_run defs (onTc (τ := τ) (main (F := F))) (s₀ m ρ) (fun r =>
    Pipeline.FramePost cfgs (held m) 0 (Pipeline.afterTail₀ cfgs (held m) 0 (V0 m) [hostOps1]) r ∧ r.2.sem = fun _ => 0) :=
  Pipeline.θ_run_frame_around_track (Q' := _) cfgs (held m) (0 : Fin 1) launch0 defs₀ Variants.none m ρ main
    (hbody := fun c => (every_point m c).loose) (hshare := fun c => (held m 0 c).share_full fun _ => rfl)
    (howed := fun _ _ => rfl) (V₀ := V0 m) (opss := [hostOps1]) (hsub := sfx_sub) (hfresh := sfx_fresh) (hkeep := sfx_keeps)
    (hmain := hmain m Variants.none) (hA := held_array m) (hin := enter m) (hout := leave m) (hQ' := fun _ h => h)

/-- The kernel's frame, off what the run leaves: its arguments end as they began. -/
theorem arguments (r : PUnit × MemSt nD τ sig (Elt F))
    (h : Pipeline.FramePost cfgs (held m) 0 (Pipeline.afterTail₀ cfgs (held m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 1).trans (((held m 0 c).arrAt_in 1 rfl _).trans (held_array m c 1)),
   ((h c).1 0).trans (((held m 0 c).arrAt_in 0 rfl _).trans (held_array m c 0)),
   ((h c).1 2).trans (((held m 0 c).arrAt_in 2 rfl _).trans (held_array m c 2)),
   ((h c).2 main_arg3 (Pipeline.mem_restRefs_of main_arg3 (by decide) (by decide))).trans (W_main_arg3 m (held m) c)⟩

end Cert.KernelIdeal.Body

end
-- ==== Proof.WalkMath.lean ====
/- What a walking point computes is the walk down the tree over the reals, when its tables and queries are exponentials of
   reals. -/
module

public import proofs.«01_k».proof.Proof.Tree
public import proofs.«01_k».proof.Proof.LaunchI
public import Idealize.ShloMosaic.Lib.Pointwise
public import Idealize.ShloMosaic.Lib.IdealHost

@[expose] public section

noncomputable section

namespace Cert.KernelIdeal.Walk

open Cert.KernelIdeal Cert.KernelIdeal.Gen Cert.KernelIdeal.Facts Cert.KernelIdeal.Body Cert.Tree
open Idealize.ShloMosaic

/-! ## A row of the table -/

/-- The factor a row of the table is taken with. -/
theorem factor (a b : BitVec 32) :
    FloatOps.sitofp (F := Ideal) FTy.f32 (BitVec.setWidth 32 (IntOp.cmpi .eq a b)) = if a = b then (1 : EReal) else 0 := by
  have red : IntOp.cmpi .eq a b = BitVec.ofBool (a == b) := rfl
  rw [red]
  by_cases h : a = b
  · rw [if_pos h, h]
    show (((BitVec.setWidth 32 (BitVec.ofBool (b == b))).toInt : ℝ) : EReal) = 1
    simp
  · rw [if_neg h, beq_eq_false_iff_ne.mpr h]
    show (((BitVec.setWidth 32 (BitVec.ofBool false)).toInt : ℝ) : EReal) = 0
    simp

theorem ofNat_inj {m n : ℕ} (hm : m < 2 ^ 32) (hn : n < 2 ^ 32) : BitVec.ofNat 32 m = BitVec.ofNat 32 n ↔ m = n := by
  constructor
  · intro h
    have := congrArg BitVec.toNat h
    rwa [BitVec.toNat_ofNat, BitVec.toNat_ofNat, Nat.mod_eq_of_lt hm, Nat.mod_eq_of_lt hn] at this
  · rintro rfl; rfl

/-- A sum against the factors is the one row. -/
theorem taken {N n : ℕ} (hN : N ≤ 256) (hn : n < N) {ix : BitVec 32} (h : ix = BitVec.ofNat 32 n) (f : Fin N → EReal) :
    ∑ x : Fin N, FloatOps.sitofp (F := Ideal) FTy.f32 (BitVec.setWidth 32 (IntOp.cmpi .eq (BitVec.ofNat 32 x.val) ix)) * f x
      = f ⟨n, hn⟩ := by
  subst h
  rw [Finset.sum_eq_single (⟨n, hn⟩ : Fin N)]
  · rw [factor, if_pos rfl, one_mul]
  · intro x _ ne
    rw [factor, if_neg, zero_mul]
    rw [ofNat_inj (by have := x.isLt; omega) (by omega)]
    exact fun e => ne (Fin.ext e)
  · exact fun h => absurd (Finset.mem_univ _) h

variable (e : Table Ideal) (ix : Ix) (r : Fin 256) (c : Fin 2048) (n : ℕ)

theorem pick1_row : pick1 e ix (ix2 r c) = e (ix2 0 c) := by pointwise [pick1]

theorem pick2_row (h : ix (ix2 r 0) = BitVec.ofNat 32 n) (hn : n < 2) : pick2 e ix (ix2 r c) = e (ix2 ⟨8 + n, by omega⟩ c) := by
  pointwise [pick2, picked, only]
  simp only [h, factor]
  obtain rfl | rfl : n = 0 ∨ n = 1 := by omega
  all_goals simp

theorem pick4_row (h : ix (ix2 r 0) = BitVec.ofNat 32 n) (hn : n < 4) : pick4 e ix (ix2 r c) = e (ix2 ⟨16 + n, by omega⟩ c) := by
  pointwise [pick4, picked, only]
  simp only [h, factor]
  obtain rfl | rfl | rfl | rfl : n = 0 ∨ n = 1 ∨ n = 2 ∨ n = 3 := by omega
  all_goals simp

theorem pick8_row (h : ix (ix2 r 0) = BitVec.ofNat 32 n) (hn : n < 8) : pick8 e ix (ix2 r c) = e (ix2 ⟨24 + n, by omega⟩ c) := by
  pointwise [pick8]; exact taken (by omega) hn h _
theorem pick16_row (h : ix (ix2 r 0) = BitVec.ofNat 32 n) (hn : n < 16) : pick16 e ix (ix2 r c) = e (ix2 ⟨32 + n, by omega⟩ c) := by
  pointwise [pick16]; exact taken (by omega) hn h _
theorem pick32_row (h : ix (ix2 r 0) = BitVec.ofNat 32 n) (hn : n < 32) : pick32 e ix (ix2 r c) = e (ix2 ⟨48 + n, by omega⟩ c) := by
  pointwise [pick32]; exact taken (by omega) hn h _
theorem pick64_row (h : ix (ix2 r 0) = BitVec.ofNat 32 n) (hn : n < 64) : pick64 e ix (ix2 r c) = e (ix2 ⟨80 + n, by omega⟩ c) := by
  pointwise [pick64]; exact taken (by omega) hn h _
theorem pick128_row (h : ix (ix2 r 0) = BitVec.ofNat 32 n) (hn : n < 128) : pick128 e ix (ix2 r c) = e (ix2 ⟨144 + n, by omega⟩ c) := by
  pointwise [pick128]; exact taken (by omega) hn h _

theorem valued_row (v : Vec Ideal S1x256x1024 .f32) (d : Fin 1024) (h : ix (ix2 r 0) = BitVec.ofNat 32 n) (hn : n < 256) :
    valued ix v (ix3 r 0 d) = v (ix3 0 ⟨n, hn⟩ d) := by
  pointwise [valued]; exact taken (by omega) hn h _

/-! ## One level -/

variable {e} {r}

/-- Row `r` of `g` is the exponentials of a node's keys, less their sign. -/
def RowOf (g : FVec Ideal S256x2048 .bf16) (r : Fin 256) (κ : Pair) : Prop :=
  ∀ c : Fin 2048, g (ix2 r c) = ((Real.exp (-(κ ⟨c.val / 1024, by omega⟩ ⟨c.val % 1024, by omega⟩)) : ℝ) : EReal)

theorem ratio_row {u v : FVec Ideal S256x1024 .bf16} {g : FVec Ideal S256x2048 .bf16} {κ : Pair} {q : Fin 1024 → ℝ}
    (hu : ∀ d, u (ix2 r d) = ((Real.exp (-(q d)) : ℝ) : EReal)) (hv : ∀ d, v (ix2 r d) = ((Real.exp (q d) : ℝ) : EReal))
    (hg : RowOf g r κ) : ratio u v g (ix2 r 0) = ((matched κ q : ℝ) : EReal) := by
  pointwise [ratio]
  unfold matched
  rw [← sum_real]
  refine Finset.sum_congr rfl fun d _ => ?_
  have low : g (ix2 r ⟨d.val, by omega⟩) = ((Real.exp (-(κ 0 d)) : ℝ) : EReal) := by
    have a : (⟨d.val / 1024, by omega⟩ : Fin 2) = 0 := Fin.ext (by show d.val / 1024 = 0; omega)
    have b : (⟨d.val % 1024, by omega⟩ : Fin 1024) = d := Fin.ext (by show d.val % 1024 = d.val; omega)
    rw [hg]; simp only [a, b]
  have high : g (ix2 r ⟨1024 + d.val, by omega⟩) = ((Real.exp (-(κ 1 d)) : ℝ) : EReal) := by
    have a : (⟨(1024 + d.val) / 1024, by omega⟩ : Fin 2) = 1 := Fin.ext (by show (1024 + d.val) / 1024 = 1; omega)
    have b : (⟨(1024 + d.val) % 1024, by omega⟩ : Fin 1024) = d := Fin.ext (by show (1024 + d.val) % 1024 = d.val; omega)
    rw [hg]; simp only [a, b]
  rw [low, high, hu, hv, ← EReal.coe_add, ← EReal.coe_add, ← EReal.coe_mul, ← EReal.coe_add, div_real _ (by positivity)]
  rfl

/-- At row `r` the state is at place `n` with the sum `a`. -/
def Stands (st : Ix × Num Ideal) (r : Fin 256) (n : ℕ) (a : ℝ) : Prop :=
  st.1 (ix2 r 0) = BitVec.ofNat 32 n ∧ st.2 (ix2 r 0) = (a : EReal)

theorem child_row {ix : Ix} {t : Num Ideal} {n : ℕ} {x : ℝ} (h : ix (ix2 r 0) = BitVec.ofNat 32 n) (ht : t (ix2 r 0) = (x : EReal)) :
    child ix t (ix2 r 0) = BitVec.ofNat 32 (2 * n + turn x) := by
  pointwise [child]
  rw [h, ht]
  have one : ((x : EReal) ≤ 1) ↔ x ≤ 1 := by exact_mod_cast Iff.rfl
  simp only [one]
  show 2#32 * BitVec.ofNat 32 n + _ = _
  rw [show 2#32 = BitVec.ofNat 32 2 from rfl, ← BitVec.ofNat_mul, BitVec.ofNat_add]
  congr 1
  unfold turn
  by_cases hx : x ≤ 1 <;> simp [hx]

theorem more_row {acc t : Num Ideal} {a x : ℝ} (hx : 0 < x) (h : acc (ix2 r 0) = (a : EReal)) (ht : t (ix2 r 0) = (x : EReal)) :
    more acc t (ix2 r 0) = ((a + part x : ℝ) : EReal) := by
  pointwise [more]
  rw [h, ht, show (1 : EReal) = ((1 : ℝ) : EReal) from rfl, div_real _ hx.ne', min_real, ← EReal.coe_add]
  rfl

theorem level_row {u v : FVec Ideal S256x1024 .bf16} {pick : Ix → FVec Ideal S256x2048 .bf16} {st : Ix × Num Ideal} {K : ℕ → Pair}
    {q : Fin 1024 → ℝ} {d : ℕ} {a : ℝ}
    (hu : ∀ d, u (ix2 r d) = ((Real.exp (-(q d)) : ℝ) : EReal)) (hv : ∀ d, v (ix2 r d) = ((Real.exp (q d) : ℝ) : EReal))
    (row : st.1 (ix2 r 0) = BitVec.ofNat 32 (place K q d) → RowOf (pick st.1) r (K (2 ^ d - 1 + place K q d)))
    (h : Stands st r (place K q d) (a + upto K q d)) : Stands (level u v pick st) r (place K q (d + 1)) (a + upto K q (d + 1)) := by
  have t := ratio_row hu hv (row h.1)
  refine ⟨child_row h.1 t, ?_⟩
  rw [upto_succ, ← add_assoc]
  exact more_row (meet_pos K q d) h.2 t

/-! ## One head -/

/-- The table is the exponentials of a tree's keys, less their sign, but for the padding. -/
def TableOf (e : Table Ideal) (K : ℕ → Pair) : Prop := ∀ (y : Fin 272) (c : Fin 2048), Used y.val →
  e (ix2 y c) = ((Real.exp (-(K (node y.val) ⟨c.val / 1024, by omega⟩ ⟨c.val % 1024, by omega⟩)) : ℝ) : EReal)

theorem row_of {K : ℕ → Pair} (T : TableOf e K) {g : FVec Ideal S256x2048 .bf16} {y : ℕ} (hy : y < 272) (used : Used y) {k : ℕ}
    (hk : node y = k) (hg : ∀ c, g (ix2 r c) = e (ix2 ⟨y, hy⟩ c)) : RowOf g r (K k) := fun c => by
  rw [hg, T ⟨y, hy⟩ c used, hk]

theorem head_row {u v : FVec Ideal S256x1024 .bf16} {K : ℕ → Pair} {q : Fin 1024 → ℝ} {acc : Num Ideal} {a : ℝ}
    (hu : ∀ d, u (ix2 r d) = ((Real.exp (-(q d)) : ℝ) : EReal)) (hv : ∀ d, v (ix2 r d) = ((Real.exp (q d) : ℝ) : EReal))
    (T : TableOf e K) (h : acc (ix2 r 0) = (a : EReal)) : Stands (head u v e acc) r (place K q 8) (a + upto K q 8) := by
  have lt := place_lt K q
  unfold head
  refine level_row (d := 7) hu hv (fun i => row_of (y := 144 + place K q 7) T (by have := lt 7; omega) (by have := lt 7; unfold Used; omega)
    (by have := lt 7; unfold node; split_ifs <;> omega) fun c => pick128_row e _ r c _ i (lt 7)) ?_
  refine level_row (d := 6) hu hv (fun i => row_of (y := 80 + place K q 6) T (by have := lt 6; omega) (by have := lt 6; unfold Used; omega)
    (by have := lt 6; unfold node; split_ifs <;> omega) fun c => pick64_row e _ r c _ i (lt 6)) ?_
  refine level_row (d := 5) hu hv (fun i => row_of (y := 48 + place K q 5) T (by have := lt 5; omega) (by have := lt 5; unfold Used; omega)
    (by have := lt 5; unfold node; split_ifs <;> omega) fun c => pick32_row e _ r c _ i (lt 5)) ?_
  refine level_row (d := 4) hu hv (fun i => row_of (y := 32 + place K q 4) T (by have := lt 4; omega) (by have := lt 4; unfold Used; omega)
    (by have := lt 4; unfold node; split_ifs <;> omega) fun c => pick16_row e _ r c _ i (lt 4)) ?_
  refine level_row (d := 3) hu hv (fun i => row_of (y := 24 + place K q 3) T (by have := lt 3; omega) (by have := lt 3; unfold Used; omega)
    (by have := lt 3; unfold node; split_ifs <;> omega) fun c => pick8_row e _ r c _ i (lt 3)) ?_
  refine level_row (d := 2) hu hv (fun i => row_of (y := 16 + place K q 2) T (by have := lt 2; omega) (by have := lt 2; unfold Used; omega)
    (by have := lt 2; unfold node; split_ifs <;> omega) fun c => pick4_row e _ r c _ i (lt 2)) ?_
  refine level_row (d := 1) hu hv (fun i => row_of (y := 8 + place K q 1) T (by have := lt 1; omega) (by have := lt 1; unfold Used; omega)
    (by have := lt 1; unfold node; split_ifs <;> omega) fun c => pick2_row e _ r c _ i (lt 1)) ?_
  refine level_row (d := 0) hu hv (fun _ => row_of (y := 0) T (by omega) (by unfold Used; simp) (by unfold node; simp [place]) fun c => pick1_row e _ r c) ?_
  exact ⟨rfl, h.trans (by simp [upto])⟩

/-! ## All heads -/

theorem falling_row {q : FVec Ideal S256x1024 .f32} {x : Fin 1024 → ℝ} (h : ∀ d, q (ix2 r d) = (x d : EReal)) (d : Fin 1024) :
    falling q (ix2 r d) = ((Real.exp (-(x d)) : ℝ) : EReal) := by
  pointwise [falling]; rw [h, neg_real]; rfl
theorem rising_row {q : FVec Ideal S256x1024 .f32} {x : Fin 1024 → ℝ} (h : ∀ d, q (ix2 r d) = (x d : EReal)) (d : Fin 1024) :
    rising q (ix2 r d) = ((Real.exp (x d) : ℝ) : EReal) := by
  pointwise [rising]; rw [h]; rfl

theorem leaf_row {q : FVec Ideal S256x1024 .f32} {x : Fin 1024 → ℝ} (h : ∀ d, q (ix2 r d) = (x d : EReal)) {k : Kept Ideal} {K : ℕ → Pair}
    (T : TableOf (table k) K) : leaf q k (ix2 r 0) = BitVec.ofNat 32 (place K x 8) :=
  (head_row (a := 0) (falling_row h) (rising_row h) T (by pointwise; exact EReal.coe_zero.symm)).1

theorem total_row {q : FVec Ideal S256x1024 .f32} {x : Fin 1024 → ℝ} (h : ∀ d, q (ix2 r d) = (x d : EReal)) {k : ℕ → Kept Ideal}
    {K : ℕ → ℕ → Pair} (T : ∀ n, TableOf (table (k n)) (K n)) (n : ℕ) :
    total q k n (ix2 r 0) = ((∑ i ∈ Finset.range n, upto (K i) x 8 : ℝ) : EReal) := by
  induction n with
  | zero => pointwise [total]; simp
  | succ n ih => rw [Finset.sum_range_succ]; exact (head_row (falling_row h) (rising_row h) (T n) ih).2

theorem score_row {q : FVec Ideal S256x1024 .f32} {x : Fin 1024 → ℝ} (h : ∀ d, q (ix2 r d) = (x d : EReal)) {k : ℕ → Kept Ideal}
    {K : ℕ → ℕ → Pair} (T : ∀ n, TableOf (table (k n)) (K n)) :
    score q k (ix2 r 0) = ((-Real.log (∑ i ∈ Finset.range 8, upto (K i) x 8) : ℝ) : EReal) := by
  pointwise [score]
  rw [total_row h T, log_real (Finset.sum_pos (fun _ _ => upto_pos _ _ 7) ⟨0, by simp⟩), neg_real]

end Cert.KernelIdeal.Walk

end
-- ==== Proof.ArraysI.lean ====
/- What the two result arrays hold after the kernel's run over the reals, when queries and keys are reals. -/
module

public import proofs.«01_k».proof.Proof.WalkMath
public import Idealize.ShloMosaic.Lib.Pipeline.ValueKit.Geometry
public import Idealize.ShloMosaic.Lib.StableHlo.Run

@[expose] public section

noncomputable section

namespace Cert.KernelIdeal.Body

open Cert.KernelIdeal Cert.KernelIdeal.Gen Cert.KernelIdeal.Facts Cert.KernelIdeal.Walk Cert.Tree
open Idealize.ShloMosaic Idealize.ShloMosaic.Pipeline Idealize.ShloMosaic.TcCoe

theorem index_0 : ∀ t : Fin cfg0.N, win0_0.index t = ![min t.val 7, 0, 0, 0] := (by decide +kernel : ∀ t : Fin grid0.N, _)
theorem index_1 : ∀ t : Fin cfg0.N, win0_1.index t = ![t.val - 8, 0] := (by decide +kernel : ∀ t : Fin grid0.N, _)
theorem index_2 : ∀ t : Fin cfg0.N, win0_2.index t = ![0, 0, 0] := (by decide +kernel : ∀ t : Fin grid0.N, _)
theorem index_3 : ∀ t : Fin cfg0.N, win0_3.index t = ![t.val - 8, 0] := (by decide +kernel : ∀ t : Fin grid0.N, _)
theorem index_4 : ∀ t : Fin cfg0.N, win0_4.index t = ![t.val - 8, 0, 0] := (by decide +kernel : ∀ t : Fin grid0.N, _)

variable (m : (ℓ : Loc nD τ sig) → Buf (Elt Ideal) ℓ) (c : Dev nD)

/-- The query and key arrays are reals. -/
def Reals (x : Fin 2048 → Fin 1024 → ℝ) (K : ℕ → ℕ → Pair) : Prop :=
  (∀ b d, V m c main_arg0 (ix2 b d) = (x b d : EReal)) ∧
    ∀ (h : Fin 8) (n : Fin 255) (f : Fin 2) (d : Fin 1024), V m c main_arg1 (ix4 h n f d) = (K h.val n.val f d : EReal)

variable {m c} {x : Fin 2048 → Fin 1024 → ℝ} {K : ℕ → ℕ → Pair}

/-- A walking point's queries. -/
theorem query_block (A : Reals m c x K) (t : Fin cfg0.N) (late : 8 ≤ t.val) (r : Fin 256) (d : Fin 1024) :
    iblk m c 1 t (ix2 r d) = (x ⟨(t.val - 8) * 256 + r.val, by have := t.isLt; have : cfg0.N = 16 := rfl; omega⟩ d : EReal) := by
  rw [← A.1]
  blk_simp [iblk]
  refine congrArg (V m c main_arg0) ?_
  blk_ext [index_1]

/-- A writing point's keys. -/
theorem key_block (h : Fin 8) (n : Fin 255) (f : Fin 2) (d : Fin 1024) : iblk m c 0 (writer h) (ix4 0 n f d) = V m c main_arg1 (ix4 h n f d) := by
  have := h.isLt
  have v : (writer h).val = h.val := rfl
  blk_simp [iblk]
  refine congrArg (V m c main_arg1) ?_
  blk_ext [index_0, v]

/-- A head's table. -/
theorem table_block (A : Reals m c x K) (h : ℕ) : TableOf (table (slab (tables m c) h)) (K (h % 8)) := fun y d used => by
  have lt : h % 8 < 8 := Nat.mod_lt _ (by decide)
  rw [table_apply]
  have e := A.2 ⟨h % 8, lt⟩ ⟨node y.val, node_lt y.isLt⟩ ⟨d.val / 1024, by omega⟩ ⟨d.val % 1024, by omega⟩
  show Ideal.exp (Ideal.ofBits .f32 0x00000000#32 - iblk m c 0 (writer ⟨h % 8, lt⟩) _) = _
  have z : Ideal.ofBits .f32 0x00000000#32 = 0 := by simp
  rw [z, ← exp_real, ← neg_real, ← e]
  refine congrArg (fun z => Ideal.exp (0 - z)) ?_
  refine Eq.trans (congrArg (iblk m c 0 (writer ⟨h % 8, lt⟩)) (funext fun a => ?_)) (key_block ⟨h % 8, lt⟩ _ _ _)
  match a with
  | ⟨0, _⟩ => rfl
  | ⟨1, _⟩ => rfl
  | ⟨2, _⟩ => rfl
  | ⟨3, _⟩ => rfl

/-- The values, whole at every point. -/
theorem value_block (t : Fin cfg0.N) (h : Fin 8) (n : Fin 256) (d : Fin 1024) : iblk m c 2 t (ix3 h n d) = V m c main_arg2 (ix3 h n d) := by
  blk_simp [iblk]
  refine congrArg (V m c main_arg2) ?_
  blk_ext [index_2]

variable (m c)

/-- The scores. -/
def Scores (x : Fin 2048 → Fin 1024 → ℝ) (K : ℕ → ℕ → Pair) : Vec Ideal S2048x1 .f32 :=
  fun y => ((-Real.log (∑ i ∈ Finset.range 8, upto (K i) (x (y 0)) 8) : ℝ) : EReal)

/-- The values found. -/
def Found (x : Fin 2048 → Fin 1024 → ℝ) (K : ℕ → ℕ → Pair) : Vec Ideal S2048x8x1024 .f32 :=
  fun y => V m c main_arg2 (ix3 (y 1) ⟨place (K (y 1).val) (x (y 0)) 8, place_lt _ _ 8⟩ (y 2))

variable {m c}

theorem score_block (A : Reals m c x K) (t : Fin cfg0.N) (late : 8 ≤ t.val) (r : Fin 256) :
    score (iblk m c 1 t) (slab (tables m c)) (ix2 r 0)
      = Scores x K (ix2 ⟨(t.val - 8) * 256 + r.val, by have := t.isLt; have : cfg0.N = 16 := rfl; omega⟩ 0) := by
  rw [score_row (query_block A t late r) (table_block A)]
  unfold Scores
  congr 3

theorem found_block (A : Reals m c x K) (t : Fin cfg0.N) (late : 8 ≤ t.val) (r : Fin 256) (h : Fin 8) (d : Fin 1024) :
    found (iblk m c 1 t) (tables m c) (iblk m c 2 t) (ix3 r h d)
      = Found m c x K (ix3 ⟨(t.val - 8) * 256 + r.val, by have := t.isLt; have : cfg0.N = 16 := rfl; omega⟩ h d) := by
  have e : h.val % 8 = h.val := Nat.mod_eq_of_lt h.isLt
  have T := table_block A h.val
  rw [e] at T
  have l := leaf_row (query_block A t late r) T
  refine Eq.trans (congrArg (valued _ _) (funext fun a => ?_)) ((valued_row _ _ _ _ d l (place_lt _ _ 8)).trans ?_)
  · match a with
    | ⟨0, _⟩ => rfl
    | ⟨1, _⟩ => rfl
    | ⟨2, _⟩ => rfl
  refine Eq.trans (congrArg (iblk m c 2 t) (funext fun a => ?_)) (value_block t h ⟨_, place_lt _ _ 8⟩ d)
  match a with
  | ⟨0, _⟩ => exact Fin.ext e
  | ⟨1, _⟩ => rfl
  | ⟨2, _⟩ => rfl

theorem final_3 (A : Reals m c x K) : (held m 0 c).arrAt 3 cfg0.N = Scores x K := by
  refine (held m 0 c).arrAt_eq_of_covers 3 _ (by decide +kernel) fun t hf y => ?_
  have late : 8 ≤ t.val := by rw [flush_3] at hf; exact of_decide_eq_true hf
  blk_simp
  have e : y = ix2 (y 0) (0 : Fin 1) := funext fun a => match a with
    | ⟨0, _⟩ => rfl
    | ⟨1, _⟩ => Subsingleton.elim (α := Fin 1) _ _
  have h : (held m 0 c).after 3 t = score (iblk m c 1 t) (slab (tables m c)) := by dsimp only [held]
  rw [h]
  refine (congrArg _ e).trans ((score_block A t late (y 0)).trans (congrArg (Scores x K) ?_))
  blk_ext [index_3]

theorem final_4 (A : Reals m c x K) : (held m 0 c).arrAt 4 cfg0.N = Found m c x K := by
  refine (held m 0 c).arrAt_eq_of_covers 4 _ (by decide +kernel) fun t hf y => ?_
  have late : 8 ≤ t.val := by rw [flush_4] at hf; exact of_decide_eq_true hf
  blk_simp
  have e : y = ix3 (y 0) (y 1) (y 2) := funext fun a => match a with
    | ⟨0, _⟩ => rfl
    | ⟨1, _⟩ => rfl
    | ⟨2, _⟩ => rfl
  have h : (held m 0 c).after 4 t = found (iblk m c 1 t) (tables m c) (iblk m c 2 t) := by dsimp only [held]
  rw [h]
  refine (congrArg _ e).trans ((found_block A t late (y 0) (y 1) (y 2)).trans (congrArg (Found m c x K) ?_))
  blk_ext [index_4]

/-- The two results after the run. -/
theorem results (A : Reals m c x K) (r : PUnit × MemSt nD τ sig (Elt Ideal))
    (h : Pipeline.FramePost cfgs (held m) 0 (Pipeline.afterTail₀ cfgs (held m) 0 (V0 m) [hostOps1]) r) :
    r.2.mem ((c.tc : Thread nD τ).loc main_v1) = shapeCast S2048 (Scores x K) shapeCasts_S2048x1_S2048
      ∧ r.2.mem ((c.tc : Thread nD τ).loc main_v2) = shapeCast S16384x1024 (Found m c x K) shapeCasts_S2048x8x1024_S16384x1024 := by
  constructor
  · refine ((h c).2 main_v1 (Pipeline.mem_restRefs_of main_v1 (by decide) (by decide))).trans ?_
    unfold Pipeline.afterTail₀
    simp only [hostOps1, List.flatten_cons, List.flatten_nil, List.append_nil]
    after_results
    have e : Pipeline.withArrays (cfgs 0).spec c (V0 m c) (fun w => (held m 0 c).arrAt w (cfgs 0).N) (Proc.devRef .tc main_v0_0)
        = (held m 0 c).arrAt 3 cfg0.N :=
      Pipeline.withArrays_arr (cfgs 0).spec (by decide) c (V0 m c) (fun w => (held m 0 c).arrAt w (cfgs 0).N) 3
    rw [e, final_3 A]
    rfl
  · refine ((h c).2 main_v2 (Pipeline.mem_restRefs_of main_v2 (by decide) (by decide))).trans ?_
    unfold Pipeline.afterTail₀
    simp only [hostOps1, List.flatten_cons, List.flatten_nil, List.append_nil]
    after_results
    have e : Pipeline.withArrays (cfgs 0).spec c (V0 m c) (fun w => (held m 0 c).arrAt w (cfgs 0).N) (Proc.devRef .tc main_v0_1)
        = (held m 0 c).arrAt 4 cfg0.N :=
      Pipeline.withArrays_arr (cfgs 0).spec (by decide) c (V0 m c) (fun w => (held m 0 c).arrAt w (cfgs 0).N) 4
    rw [e, final_4 A]
    rfl

end Cert.KernelIdeal.Body

end
-- ==== Proof.RefDef.lean ====
/- The reference's steps as functions of their operands: a level of the walk is one of them, at each of the eight levels. -/
module

public import proofs.«01_k».proof.Proof.Tree
public import proofs.«01_k».proof.Proof.Gen.ReferenceIdeal.Run
public import Idealize.ShloMosaic.Lib.Pointwise
public import Idealize.ShloMosaic.Lib.IdealHost

@[expose] public section

noncomputable section

namespace Cert.ReferenceIdeal.Rows

open Cert.ReferenceIdeal Cert.ReferenceIdeal.Gen Cert.ReferenceIdeal.Facts Cert.ReferenceIdeal.Value
open Idealize.ShloMosaic Idealize.ShloMosaic.StableHlo

/-- One number per query and head. -/
abbrev Nums := FVec Ideal S16384 .f32
/-- One place per query and head. -/
abbrev Ids := IVec S16384 32
/-- One vector per query and head. -/
abbrev Wide := FVec Ideal S16384x1024 .f32

/-- The logarithm of a sum of two exponentials. -/
def addexp {s : Shape} (x y : FVec Ideal s .f32) : FVec Ideal s .f32 :=
  select (cmpf .une (subf x y) (subf x y)) (addf x y) (addf (maximumf x y) (Host.log1p (Host.exp (Host.negf (Host.absf (subf x y))))))

/-- The row of the keys, all heads together, that holds a level's place `ix`. -/
def spot (n base : BitVec 32) (heads ix : Ids) : Ids :=
  addi (muli heads (broadcastInDim S16384 ![] bcast_S_S16384 (constantI S_ 32 n))) (addi (broadcastInDim S16384 ![] bcast_S_S16384 (constantI S_ 32 base)) ix)

/-- A row counted from the end, were it negative. -/
def wrapped (n : BitVec 32) (a : Ids) : IVec S16384x1 32 :=
  broadcastInDim S16384x1 ![0] bcast_S16384_S16384x1_0 (select (cmpi .slt a (broadcastInDim S16384 ![] bcast_S_S16384 (constantI S_ 32 0#32))) (addi a (broadcastInDim S16384 ![] bcast_S_S16384 (constantI S_ 32 n))) a)

/-- Whether a row is there. -/
def there (n : BitVec 32) (a : IVec S16384x1 32) : IVec S16384 1 :=
  Host.reduce IntOp.andi (andi (cmpi .sge a (broadcastInDim S16384x1 ![] bcast_S_S16384x1 (constantI S_ 32 0#32))) (cmpi .sle a (broadcastInDim S16384x1 ![0, 1] bcast_S1x1_S16384x1_0_1 (broadcastInDim S1x1 ![1] bcast_S1_S1x1_1 (constantI S1 32 n))))) (constantI S_ 1 1#1) reducesTo_S16384x1_S16384_d1 h_S_

/-- The rows of the keys. -/
def rows (keys : FVec Ideal S2040x2048 .f32) (a : IVec S16384x1 32) : FVec Ideal S16384x2x1024 .f32 :=
  shapeCast _ (select (broadcastInDim S16384x2048 ![0] bcast_S16384_S16384x2048_0 (there 2039#32 a)) (Host.gather gather_S2040x2048_S16384x1_S16384x2048_1_0_n_n_0_1_12048 keys a) (broadcastInDim S16384x2048 ![] bcast_S_S16384x2048 (constant S_ .f32 0x7FC00000#32))) shapeCasts_S16384x2048_S16384x2x1024

/-- The first of a node's two keys, negated. -/
def firstKey (g : FVec Ideal S16384x2x1024 .f32) : Wide :=
  Host.negf (shapeCast _ (extractStridedSlice S16384x1x1024 ![0, 0, 0] g slices_S16384x2x1024_S16384x1x1024_0_0_0) shapeCasts_S16384x1x1024_S16384x1024)
/-- The second. -/
def secondKey (g : FVec Ideal S16384x2x1024 .f32) : Wide :=
  Host.negf (shapeCast _ (extractStridedSlice S16384x1x1024 ![0, 1, 0] g slices_S16384x2x1024_S16384x1x1024_0_1_0) shapeCasts_S16384x1x1024_S16384x1024)

/-- The match of queries and keys, coordinate by coordinate. -/
def meets (q : Wide) (g : FVec Ideal S16384x2x1024 .f32) : Wide :=
  Host.negf (addexp (Host.negf (addexp (firstKey g) (Host.negf q))) (Host.negf (addexp (secondKey g) (Host.negf (Host.negf q)))))

/-- The greatest coordinate. -/
def top (x : Wide) : FVec Ideal S16384x1 .f32 :=
  broadcastInDim S16384x1 ![0] bcast_S16384_S16384x1_0 (Host.reduce FloatOps.maximumf x (constant S_ .f32 0xFF800000#32) reducesTo_S16384x1024_S16384_d1 h_S_)

/-- Less the logarithm of the sum of the coordinates' exponentials. -/
def least (x : Wide) : Nums :=
  Host.negf (addf (Host.log (Host.reduceAdd (Host.exp (subf x (broadcastInDim S16384x1024 ![0, 1] bcast_S16384x1_S16384x1024_0_1 (top x)))) (constant S_ .f32 0x00000000#32) reducesTo_S16384x1024_S16384_d1 h_S_)) (shapeCast _ (top x) shapeCasts_S16384x1_S16384))

/-- The score of the node at place `ix` of the level that begins at `base`. -/
def scores (q : Wide) (keys : FVec Ideal S2040x2048 .f32) (heads : Ids) (base : BitVec 32) (ix : Ids) : Nums :=
  least (meets q (rows keys (wrapped 2040#32 (spot 255#32 base heads ix))))

/-- The turn taken at a score. -/
def bit (s : Nums) : Nums := uitofp .f32 (cmpf .oge s (broadcastInDim S16384 ![] bcast_S_S16384 (constant S_ .f32 0x00000000#32)))

/-- The place in the next level. -/
def next (ix : Ids) (b : Nums) : Ids := addi (muli (broadcastInDim S16384 ![] bcast_S_S16384 (constantI S_ 32 2#32)) ix) (fptosi 32 b)

/-- A level's term of the support. -/
def gain (b s : Nums) : Nums :=
  Host.negf (mulf (subf (mulf (broadcastInDim S16384 ![] bcast_S_S16384 (constant S_ .f32 0x40000000#32)) b) (broadcastInDim S16384 ![] bcast_S_S16384 (constant S_ .f32 0x3F800000#32))) s)

/-- The support with one more term, both negated. -/
def joined (x y : Nums) : Nums := Host.negf (Host.negf (addexp x y))

/-- The support, as one number per query and head. -/
def perHead (x y : Nums) : FVec Ideal S2048x8 .f32 := Host.negf (shapeCast _ (Host.negf (addexp x y)) shapeCasts_S16384_S2048x8)

/-- The greatest of a query's. -/
def topHead (x : FVec Ideal S2048x8 .f32) : FVec Ideal S2048x1 .f32 :=
  broadcastInDim S2048x1 ![0] bcast_S2048_S2048x1_0 (Host.reduce FloatOps.maximumf x (constant S_ .f32 0xFF800000#32) reducesTo_S2048x8_S2048_d1 h_S_)

/-- The support of a query. -/
def overHeads (x : FVec Ideal S2048x8 .f32) : FVec Ideal S2048 .f32 :=
  Host.negf (addf (Host.log (Host.reduceAdd (Host.exp (subf x (broadcastInDim S2048x8 ![0, 1] bcast_S2048x1_S2048x8_0_1 (topHead x)))) (constant S_ .f32 0x00000000#32) reducesTo_S2048x8_S2048_d1 h_S_)) (shapeCast _ (topHead x) shapeCasts_S2048x1_S2048))

/-- The values at the leaves. -/
def leaves (values : FVec Ideal S2048x1024 .f32) (a : IVec S16384x1 32) : FVec Ideal S16384x1024 .f32 :=
  select (broadcastInDim S16384x1024 ![0] bcast_S16384_S16384x1024_0 (there 2047#32 a)) (Host.gather gather_S2048x1024_S16384x1_S16384x1024_1_0_n_n_0_1_11024 values a) (broadcastInDim S16384x1024 ![] bcast_S_S16384x1024 (constant S_ .f32 0x7FC00000#32))

/-- A leaf's row of the values, all heads together. -/
def leafSpot (heads ix : Ids) : Ids := addi (muli heads (broadcastInDim S16384 ![] bcast_S_S16384 (constantI S_ 32 256#32))) ix

/-- The places reached, level by level. -/
def seat (q : Wide) (keys : FVec Ideal S2040x2048 .f32) (heads : Ids) : ℕ → Ids
  | 0 => broadcastInDim S16384 ![] bcast_S_S16384 (constantI S_ 32 0#32)
  | d + 1 => next (seat q keys heads d) (bit (scores q keys heads (BitVec.ofNat 32 (2 ^ d - 1)) (seat q keys heads d)))

/-- The scores, level by level. -/
def mark (q : Wide) (keys : FVec Ideal S2040x2048 .f32) (heads : Ids) (d : ℕ) : Nums :=
  scores q keys heads (BitVec.ofNat 32 (2 ^ d - 1)) (seat q keys heads d)

/-- The terms of the support. -/
def term (q : Wide) (keys : FVec Ideal S2040x2048 .f32) (heads : Ids) (d : ℕ) : Nums := gain (bit (mark q keys heads d)) (mark q keys heads d)

/-- The support's terms up to level `d`, joined. -/
def chain (q : Wide) (keys : FVec Ideal S2040x2048 .f32) (heads : Ids) : ℕ → Nums
  | 0 => term q keys heads 0
  | d + 1 => joined (chain q keys heads d) (term q keys heads (d + 1))

/-! ## The program's stages are these -/

variable {q : Wide} {keys : FVec Ideal S2040x2048 .f32} {heads : Ids}

theorem mark_of {d : ℕ} {ix : Ids} {s : Nums} (hs : s = scores q keys heads (BitVec.ofNat 32 (2 ^ d - 1)) ix) (h : ix = seat q keys heads d) :
    s = mark q keys heads d := hs.trans (congrArg _ h)

theorem seat_of {d : ℕ} {ix j : Ids} {s : Nums} (hj : j = next ix (bit s)) (h : ix = seat q keys heads d) (hs : s = mark q keys heads d) :
    j = seat q keys heads (d + 1) := hj.trans (congrArg₂ (fun i s => next i (bit s)) h hs)

theorem chain_of {d : ℕ} {c e s : Nums} (he : e = joined c (gain (bit s) s)) (h : c = chain q keys heads d) (hs : s = mark q keys heads (d + 1)) :
    e = chain q keys heads (d + 1) := he.trans (congrArg₂ (fun c s => joined c (gain (bit s) s)) h hs)

variable (V : Valuation τ sig (Elt Ideal))

/-- The last level's place, and what the supports are made of. -/
theorem stages : res_main_v566 V = seat (res_main_v2 V) (res_main_v7 V) (res_main_v6 V) 7
    ∧ res_main_v643 V = mark (res_main_v2 V) (res_main_v7 V) (res_main_v6 V) 7
    ∧ res_main_v656 V = chain (res_main_v2 V) (res_main_v7 V) (res_main_v6 V) 6 := by
  have s0 : res_main_v9 V = seat (res_main_v2 V) (res_main_v7 V) (res_main_v6 V) 0 := rfl
  have m0 := mark_of (d := 0) (s := res_main_v68 V) rfl s0
  have s1 := seat_of (j := res_main_v75 V) rfl s0 m0
  have m1 := mark_of (d := 1) (s := res_main_v139 V) rfl s1
  have s2 := seat_of (j := res_main_v146 V) rfl s1 m1
  have m2 := mark_of (d := 2) (s := res_main_v223 V) rfl s2
  have s3 := seat_of (j := res_main_v230 V) rfl s2 m2
  have m3 := mark_of (d := 3) (s := res_main_v307 V) rfl s3
  have s4 := seat_of (j := res_main_v314 V) rfl s3 m3
  have m4 := mark_of (d := 4) (s := res_main_v391 V) rfl s4
  have s5 := seat_of (j := res_main_v398 V) rfl s4 m4
  have m5 := mark_of (d := 5) (s := res_main_v475 V) rfl s5
  have s6 := seat_of (j := res_main_v482 V) rfl s5 m5
  have m6 := mark_of (d := 6) (s := res_main_v559 V) rfl s6
  have s7 := seat_of (j := res_main_v566 V) rfl s6 m6
  have m7 := mark_of (d := 7) (s := res_main_v643 V) rfl s7
  have c0 : res_main_v152 V = chain (res_main_v2 V) (res_main_v7 V) (res_main_v6 V) 0 :=
    (show res_main_v152 V = gain (bit (res_main_v68 V)) (res_main_v68 V) from rfl).trans (congrArg (fun s => gain (bit s) s) m0)
  have c1 := chain_of (e := res_main_v236 V) rfl c0 m1
  have c2 := chain_of (e := res_main_v320 V) rfl c1 m2
  have c3 := chain_of (e := res_main_v404 V) rfl c2 m3
  have c4 := chain_of (e := res_main_v488 V) rfl c3 m4
  have c5 := chain_of (e := res_main_v572 V) rfl c4 m5
  have c6 := chain_of (e := res_main_v656 V) rfl c5 m6
  exact ⟨s7, m7, c6⟩

/-- The support of every query. -/
def support : FVec Ideal S2048 .f32 := overHeads (perHead (chain (res_main_v2 V) (res_main_v7 V) (res_main_v6 V) 6)
  (term (res_main_v2 V) (res_main_v7 V) (res_main_v6 V) 7))

/-- The value found for every query and head. -/
def found : FVec Ideal S16384x1024 .f32 :=
  leaves (shapeCast _ (V (Proc.devRef .tc main_arg2)) shapeCasts_S8x256x1024_S2048x1024)
    (wrapped 2048#32 (leafSpot (res_main_v6 V) (seat (res_main_v2 V) (res_main_v7 V) (res_main_v6 V) 8)))

theorem support_eq : Host.negf (addf (Host.log (Host.reduceAdd (Host.exp (subf (res_main_v674 V) (broadcastInDim S2048x8 ![0, 1] bcast_S2048x1_S2048x8_0_1 (res_main_v676 V)))) (constant S_ .f32 0x00000000#32) reducesTo_S2048x8_S2048_d1 h_S_)) (shapeCast _ (res_main_v676 V) shapeCasts_S2048x1_S2048))
    = support V := by
  have h : res_main_v674 V = perHead (res_main_v656 V) (gain (bit (res_main_v643 V)) (res_main_v643 V)) := rfl
  have g : res_main_v676 V = topHead (res_main_v674 V) := rfl
  rw [g, h, (stages V).2.1, (stages V).2.2]
  rfl

theorem found_eq : leaves (shapeCast _ (V (Proc.devRef .tc main_arg2)) shapeCasts_S8x256x1024_S2048x1024) (res_main_call8_v5 V) = found V := by
  have h : res_main_call8_v5 V = wrapped 2048#32 (leafSpot (res_main_v6 V) (next (res_main_v566 V) (bit (res_main_v643 V)))) := rfl
  rw [h, (stages V).1, (stages V).2.1]
  rfl

end Cert.ReferenceIdeal.Rows

end
-- ==== Proof.RefRow.lean ====
/- What the reference computes for one query and one head is the walk down the tree over the reals, when queries and keys are
   reals. -/
module

public import proofs.«01_k».proof.Proof.RefDef
public import Idealize.ShloMosaic.Lib.Routing.Ops

@[expose] public section

noncomputable section

namespace Cert.ReferenceIdeal.Rows

open Cert.ReferenceIdeal Cert.ReferenceIdeal.Gen Cert.ReferenceIdeal.Facts Cert.ReferenceIdeal.Value Cert.Tree
open Idealize.ShloMosaic Idealize.ShloMosaic.StableHlo

/-! ## Logarithms of sums of exponentials -/

theorem two_exp (a b : ℝ) : max a b + Real.log (1 + Real.exp (-(max (a - b) (-(a - b))))) = Real.log (Real.exp a + Real.exp b) := by
  rcases le_total a b with h | h
  · rw [max_eq_right h, max_eq_right (by linarith), ← Real.log_exp b, ← Real.log_mul (Real.exp_ne_zero _) (by positivity), Real.log_exp, mul_add, mul_one,
      ← Real.exp_add, add_comm]
    congr 3; ring
  · rw [max_eq_left h, max_eq_left (by linarith), ← Real.log_exp a, ← Real.log_mul (Real.exp_ne_zero _) (by positivity), Real.log_exp, mul_add, mul_one,
      ← Real.exp_add]
    congr 3; ring

theorem addexp_real {s : Shape} {x y : FVec Ideal s .f32} {i : s.Idx} {a b : ℝ} (hx : x i = (a : EReal)) (hy : y i = (b : EReal)) :
    addexp x y i = ((Real.log (Real.exp a + Real.exp b) : ℝ) : EReal) := by
  pointwise [addexp]
  rw [hx, hy, if_neg (by simp), ← EReal.coe_sub]
  show _ + Ideal.log (1 + Ideal.exp (-(max ((a - b : ℝ) : EReal) (-((a - b : ℝ) : EReal))))) = _
  rw [← EReal.coe_neg, max_real, max_real, ← EReal.coe_neg, exp_real, ← EReal.coe_one, ← EReal.coe_add, log_real (by positivity), ← EReal.coe_add, two_exp]

theorem addexp_log {s : Shape} {x y : FVec Ideal s .f32} {i : s.Idx} {a b : ℝ} (ha : 0 < a) (hb : 0 < b)
    (hx : x i = ((Real.log a : ℝ) : EReal)) (hy : y i = ((Real.log b : ℝ) : EReal)) : addexp x y i = ((Real.log (a + b) : ℝ) : EReal) := by
  rw [addexp_real hx hy, Real.exp_log ha, Real.exp_log hb]

/-- The greatest of some reals is a real. -/
theorem greatest {N : ℕ} (hN : 0 < N) (f : Fin N → ℝ) :
    ∃ m : ℝ, Finset.fold max (Ideal.ofBits FTy.f32 0xFF800000#32) (fun x => (f x : EReal)) Finset.univ = (m : EReal) := by
  have low : Ideal.ofBits FTy.f32 0xFF800000#32 = ⊥ := by simp [Ideal.ofBits, Ideal.ieee]
  rw [low]
  have key : ∀ s : Finset (Fin N), s.Nonempty → ∃ m : ℝ, Finset.fold max (⊥ : EReal) (fun x => (f x : EReal)) s = (m : EReal) := by
    intro s
    induction s using Finset.induction_on with
    | empty => exact fun h => absurd h (by simp)
    | insert a s ha ih =>
      intro _
      rw [Finset.fold_insert ha]
      rcases s.eq_empty_or_nonempty with rfl | h
      · exact ⟨f a, by simp⟩
      · obtain ⟨m, hm⟩ := ih h
        exact ⟨max (f a) m, by rw [hm, max_real]⟩
  exact key _ ⟨⟨0, hN⟩, Finset.mem_univ _⟩

/-- Less the logarithm of a sum, its terms given by their logarithms less one common number. -/
theorem sum_exp {N : ℕ} (hN : 0 < N) (g : Fin N → ℝ) (hg : ∀ i, 0 < g i) (m : ℝ) :
    -(Ideal.log (∑ i : Fin N, Ideal.exp (((Real.log (g i) : ℝ) : EReal) - (m : EReal))) + (m : EReal)) = ((-Real.log (∑ i, g i) : ℝ) : EReal) := by
  have pos : 0 < ∑ i, g i := Finset.sum_pos (fun i _ => hg i) ⟨⟨0, hN⟩, Finset.mem_univ _⟩
  have e : ∀ i, Ideal.exp (((Real.log (g i) : ℝ) : EReal) - (m : EReal)) = ((g i * Real.exp (-m) : ℝ) : EReal) := fun i => by
    rw [← EReal.coe_sub, exp_real, sub_eq_add_neg, Real.exp_add, Real.exp_log (hg i)]
  rw [Finset.sum_congr rfl fun i _ => e i, sum_real, ← Finset.sum_mul, log_real (by positivity), ← EReal.coe_add, ← EReal.coe_neg,
    Real.log_mul pos.ne' (Real.exp_ne_zero _), Real.log_exp]
  congr 2; ring

theorem least_row {x : Wide} {r : Fin 16384} {g : Fin 1024 → ℝ} (hg : ∀ i, 0 < g i) (h : ∀ i, x (ix2 r i) = ((Real.log (g i) : ℝ) : EReal)) :
    least x (ix1 r) = ((-Real.log (∑ i, g i) : ℝ) : EReal) := by
  obtain ⟨m, hm⟩ := greatest (by omega) fun i => Real.log (g i)
  have t : top x (ix2 r 0) = (m : EReal) := by pointwise [top]; simp only [h]; exact hm
  pointwise [least]
  simp only [h, t]
  exact sum_exp (by omega) g hg m

theorem overHeads_row {x : FVec Ideal S2048x8 .f32} {r : Fin 2048} {g : Fin 8 → ℝ} (hg : ∀ i, 0 < g i)
    (h : ∀ i, x (ix2 r i) = ((Real.log (g i) : ℝ) : EReal)) : overHeads x (ix1 r) = ((-Real.log (∑ i, g i) : ℝ) : EReal) := by
  obtain ⟨m, hm⟩ := greatest (by omega) fun i => Real.log (g i)
  have t : topHead x (ix2 r 0) = (m : EReal) := by pointwise [topHead]; simp only [h]; exact hm
  pointwise [overHeads]
  simp only [h, t]
  exact sum_exp (by omega) g hg m

/-! ## Rows taken -/

theorem toInt_small {n : ℕ} (h : n < 2 ^ 31) : (BitVec.ofNat 32 n).toInt = n := by
  rw [BitVec.toInt_eq_toNat_of_lt (by rw [BitVec.toNat_ofNat, Nat.mod_eq_of_lt (by omega)]; omega), BitVec.toNat_ofNat, Nat.mod_eq_of_lt (by omega)]

theorem wrapped_row {a : Ids} {r : Fin 16384} {n : ℕ} {m : BitVec 32} (hn : n < 2 ^ 31) (h : a (ix1 r) = BitVec.ofNat 32 n) :
    wrapped m a (ix2 r 0) = BitVec.ofNat 32 n := by
  pointwise [wrapped]
  rw [h]
  have no : IntOp.cmpi CmpIPredicate.slt (BitVec.ofNat 32 n) 0#32 = 0#1 := by
    show BitVec.ofBool (BitVec.slt _ _) = _
    rw [BitVec.slt, toInt_small hn, decide_eq_false (by simp)]
    rfl
  rw [no]
  rfl

theorem there_row {a : IVec S16384x1 32} {r : Fin 16384} {n m : ℕ} (hn : n ≤ m) (hm : m < 2 ^ 31) (h : a (ix2 r 0) = BitVec.ofNat 32 n) :
    there (BitVec.ofNat 32 m) a (ix1 r) = 1#1 := by
  pointwise [there]
  have ge : IntOp.cmpi CmpIPredicate.sge (BitVec.ofNat 32 n) 0#32 = 1#1 := by
    show BitVec.ofBool (BitVec.sle _ _) = _
    rw [BitVec.sle, toInt_small (by omega : n < 2 ^ 31), decide_eq_true (by simp)]
    rfl
  have le : IntOp.cmpi CmpIPredicate.sle (BitVec.ofNat 32 n) (BitVec.ofNat 32 m) = 1#1 := by
    show BitVec.ofBool (BitVec.sle _ _) = _
    rw [BitVec.sle, toInt_small (by omega), toInt_small hm]
    simp [hn]
  rw [show (Finset.univ : Finset (Fin 1)) = {0} from rfl, Finset.fold_singleton, h, ge, le]
  rfl

theorem rows_row {keys : FVec Ideal S2040x2048 .f32} {a : IVec S16384x1 32} {r : Fin 16384} {n : ℕ} (hn : n < 2040) (h : a (ix2 r 0) = BitVec.ofNat 32 n)
    (f : Fin 2) (c : Fin 1024) : rows keys a (ix3 r f c) = keys (ix2 ⟨n, hn⟩ ⟨f.val * 1024 + c.val, by omega⟩) := by
  pointwise [rows]
  rw [show there (2039#32) a (ix1 r) = 1#1 from there_row (m := 2039) (by omega) (by omega) h]
  exact Routing.gather_row gather_S2040x2048_S16384x1_S16384x2048_1_0_n_n_0_1_12048 rfl rfl rfl rfl rfl keys a r _ ⟨n, hn⟩ h (by omega)

theorem leaves_row {values : FVec Ideal S2048x1024 .f32} {a : IVec S16384x1 32} {r : Fin 16384} {n : ℕ} (hn : n < 2048)
    (h : a (ix2 r 0) = BitVec.ofNat 32 n) (c : Fin 1024) : leaves values a (ix2 r c) = values (ix2 ⟨n, hn⟩ c) := by
  pointwise [leaves]
  rw [show there (2047#32) a (ix1 r) = 1#1 from there_row (m := 2047) (by omega) (by omega) h]
  exact Routing.gather_row gather_S2048x1024_S16384x1_S16384x1024_1_0_n_n_0_1_11024 rfl rfl rfl rfl rfl values a r _ ⟨n, hn⟩ h (by omega)

/-! ## One level -/

/-- Row `r` is of query `x` and head `h`, whose tree is `K`. -/
structure RowAt (q : Wide) (keys : FVec Ideal S2040x2048 .f32) (heads : Ids) (r : Fin 16384) (x : Fin 1024 → ℝ) (h : ℕ) (K : ℕ → Pair) : Prop where
  query : ∀ d, q (ix2 r d) = (x d : EReal)
  head : heads (ix1 r) = BitVec.ofNat 32 h
  few : h < 8
  key : ∀ n (hn : n < 255) (f : Fin 2) (c : Fin 1024), keys (ix2 ⟨h * 255 + n, by omega⟩ ⟨f.val * 1024 + c.val, by omega⟩) = (K n f c : EReal)

variable {q : Wide} {keys : FVec Ideal S2040x2048 .f32} {heads : Ids} {r : Fin 16384} {x : Fin 1024 → ℝ} {h : ℕ} {K : ℕ → Pair}

theorem meets_row {g : FVec Ideal S16384x2x1024 .f32} {κ : Pair} (hq : ∀ d, q (ix2 r d) = (x d : EReal))
    (hg : ∀ f c, g (ix3 r f c) = (κ f c : EReal)) (c : Fin 1024) :
    meets q g (ix2 r c) = ((Real.log (both (κ 0 c) (κ 1 c) (x c)) : ℝ) : EReal) := by
  have k1 : firstKey g (ix2 r c) = ((-(κ 0 c) : ℝ) : EReal) := by pointwise [firstKey]; rw [hg, EReal.coe_neg]
  have k2 : secondKey g (ix2 r c) = ((-(κ 1 c) : ℝ) : EReal) := by pointwise [secondKey]; rw [hg, EReal.coe_neg]
  have n1 : Host.negf q (ix2 r c) = ((-(x c) : ℝ) : EReal) := by pointwise; rw [hq, EReal.coe_neg]
  have n2 : Host.negf (Host.negf q) (ix2 r c) = ((x c : ℝ) : EReal) := by pointwise; rw [hq, neg_neg]
  have a := addexp_real k1 n1
  have b := addexp_real k2 n2
  have pa : 0 < Real.exp (-(κ 0 c)) + Real.exp (-(x c)) := by positivity
  have pb : 0 < Real.exp (-(κ 1 c)) + Real.exp (x c) := by positivity
  have a' : Host.negf (addexp (firstKey g) (Host.negf q)) (ix2 r c) = ((Real.log (Real.exp (-(κ 0 c)) + Real.exp (-(x c)))⁻¹ : ℝ) : EReal) := by
    pointwise; rw [a, Real.log_inv, EReal.coe_neg]
  have b' : Host.negf (addexp (secondKey g) (Host.negf (Host.negf q))) (ix2 r c) = ((Real.log (Real.exp (-(κ 1 c)) + Real.exp (x c))⁻¹ : ℝ) : EReal) := by
    pointwise; rw [b, Real.log_inv, EReal.coe_neg]
  pointwise [meets]
  rw [addexp_log (by positivity) (by positivity) a' b', ← EReal.coe_neg, ← Real.log_inv]
  congr 2
  unfold both
  field_simp
  ring

theorem scores_row (R : RowAt q keys heads r x h K) {ix : Ids} {base n : ℕ} (hn : base + n < 255) (hi : ix (ix1 r) = BitVec.ofNat 32 n) :
    scores q keys heads (BitVec.ofNat 32 base) ix (ix1 r) = ((-Real.log (matched (K (base + n)) x) : ℝ) : EReal) := by
  have few := R.few
  have at_ : spot 255#32 (BitVec.ofNat 32 base) heads ix (ix1 r) = BitVec.ofNat 32 (h * 255 + (base + n)) := by
    pointwise [spot]
    rw [R.head, hi]
    show BitVec.ofNat 32 h * BitVec.ofNat 32 255 + (BitVec.ofNat 32 base + BitVec.ofNat 32 n) = _
    rw [← BitVec.ofNat_mul, ← BitVec.ofNat_add, ← BitVec.ofNat_add]
  exact least_row (fun _ => both_pos _ _ _) fun c => meets_row R.query (fun f c => (rows_row (by omega) (wrapped_row (by omega) at_) f c).trans (R.key _ hn f c)) c

theorem bit_row {s : Nums} {t : ℝ} (ht : 0 < t) (hs : s (ix1 r) = ((-Real.log t : ℝ) : EReal)) : bit s (ix1 r) = (((turn t : ℕ) : ℝ) : EReal) := by
  pointwise [bit]
  rw [hs]
  have : ((0 : EReal) ≤ ((-Real.log t : ℝ) : EReal)) ↔ t ≤ 1 := by
    rw [← EReal.coe_zero, EReal.coe_le_coe_iff, le_neg, neg_zero, Real.log_nonpos_iff ht.le]
  simp only [this]
  show (((BitVec.ofBool (decide (t ≤ 1))).toNat : ℝ) : EReal) = _
  unfold turn
  by_cases h : t ≤ 1 <;> simp [h]

theorem next_row {ix : Ids} {b : Nums} {n m : ℕ} (hm : m ≤ 1) (hi : ix (ix1 r) = BitVec.ofNat 32 n) (hb : b (ix1 r) = ((m : ℝ) : EReal)) :
    next ix b (ix1 r) = BitVec.ofNat 32 (2 * n + m) := by
  pointwise [next]
  rw [hi, hb]
  have : FloatOps.fptosi (F := Ideal) (φ := .f32) 32 ((m : ℝ) : EReal) = BitVec.ofNat 32 m := by
    show BitVec.ofInt 32 (max _ (min _ (if (0 : ℝ) ≤ (m : ℝ) then ⌊(m : ℝ)⌋ else _))) = _
    rw [if_pos (Nat.cast_nonneg m), Int.floor_natCast]
    obtain rfl | rfl : m = 0 ∨ m = 1 := by omega
    all_goals rfl
  rw [this]
  show BitVec.ofNat 32 2 * BitVec.ofNat 32 n + BitVec.ofNat 32 m = _
  rw [← BitVec.ofNat_mul, ← BitVec.ofNat_add]

theorem gain_row {s : Nums} {t : ℝ} (ht : 0 < t) (hs : s (ix1 r) = ((-Real.log t : ℝ) : EReal)) :
    gain (bit s) s (ix1 r) = ((Real.log (part t) : ℝ) : EReal) := by
  have two : Ideal.ofBits FTy.f32 0x40000000#32 = ((2 : ℝ) : EReal) := by
    simp [Ideal.ofBits, Ideal.ieee]
    rw [← EReal.coe_mul]
    norm_num
  have b := bit_row ht hs
  pointwise [gain]
  rw [b, hs, two, ← EReal.coe_one, ← EReal.coe_mul, ← EReal.coe_sub, ← EReal.coe_mul, ← EReal.coe_neg]
  congr 1
  unfold turn part
  by_cases h : t ≤ 1
  · rw [if_pos h, min_eq_left (by rw [le_div_iff₀ ht]; nlinarith)]; push_cast; ring
  · rw [if_neg h, min_eq_right (by rw [div_le_iff₀ ht]; nlinarith), one_div, Real.log_inv]; push_cast; ring

theorem seat_row (R : RowAt q keys heads r x h K) (d : ℕ) (hd : d ≤ 8) : seat q keys heads d (ix1 r) = BitVec.ofNat 32 (place K x d) := by
  induction d with
  | zero => pointwise [seat]; rfl
  | succ d ih =>
    have lt := place_lt K x d
    have pow : 2 ^ d ≤ 2 ^ 7 := Nat.pow_le_pow_right (by omega) (by omega)
    exact next_row (turn_le _) (ih (by omega)) (bit_row (meet_pos K x d) (scores_row R (by omega) (ih (by omega))))

theorem mark_row (R : RowAt q keys heads r x h K) (d : ℕ) (hd : d < 8) : mark q keys heads d (ix1 r) = ((-Real.log (meet K x d) : ℝ) : EReal) := by
  have lt := place_lt K x d
  have pow : 2 ^ d ≤ 2 ^ 7 := Nat.pow_le_pow_right (by omega) (by omega)
  exact scores_row R (by omega) (seat_row R d (by omega))

theorem term_row (R : RowAt q keys heads r x h K) (d : ℕ) (hd : d < 8) : term q keys heads d (ix1 r) = ((Real.log (part (meet K x d)) : ℝ) : EReal) :=
  gain_row (meet_pos K x d) (mark_row R d hd)

theorem chain_row (R : RowAt q keys heads r x h K) (d : ℕ) (hd : d < 8) : chain q keys heads d (ix1 r) = ((Real.log (upto K x (d + 1)) : ℝ) : EReal) := by
  induction d with
  | zero => exact (term_row R 0 hd).trans (by rw [upto_succ]; simp [upto])
  | succ d ih =>
    have e := addexp_log (upto_pos K x d) (part_pos (meet_pos K x (d + 1))) (ih (by omega)) (term_row R (d + 1) hd)
    pointwise [chain, joined]
    rw [e, neg_neg, ← upto_succ]

/-! ## The results -/

variable (V : Valuation τ sig (Elt Ideal))

/-- The arguments are reals. -/
def Reals (x : Fin 2048 → Fin 1024 → ℝ) (K : ℕ → ℕ → Pair) : Prop :=
  (∀ b d, V (Proc.devRef .tc main_arg0) (ix2 b d) = (x b d : EReal)) ∧
    ∀ (h : Fin 8) (n : Fin 255) (f : Fin 2) (c : Fin 1024), V (Proc.devRef .tc main_arg1) (ix4 h n f c) = (K h.val n.val f c : EReal)

variable {V} {x : Fin 2048 → Fin 1024 → ℝ} {K : ℕ → ℕ → Pair}

theorem row_at (A : Reals V x K) (b : Fin 2048) (h : Fin 8) :
    RowAt (res_main_v2 V) (res_main_v7 V) (res_main_v6 V) ⟨b.val * 8 + h.val, by omega⟩ (x b) h.val (K h.val) where
  query d := by pointwise [res_main_v2]; exact A.1 b d
  head := by pointwise [res_main_v6]
  few := h.isLt
  key n hn f c := by
    have e1 : (⟨(h.val * 255 + n) / 255, by omega⟩ : Fin 8) = h := Fin.ext (by show (h.val * 255 + n) / 255 = h.val; omega)
    have e2 : (⟨(h.val * 255 + n) % 255, by omega⟩ : Fin 255) = ⟨n, hn⟩ := Fin.ext (by show (h.val * 255 + n) % 255 = n; omega)
    pointwise [res_main_v7]
    rw [e1, e2]; exact A.2 h ⟨n, hn⟩ f c

/-- The support of a query. -/
theorem support_row (A : Reals V x K) (b : Fin 2048) :
    support V (ix1 b) = ((-Real.log (∑ i ∈ Finset.range 8, upto (K i) (x b) 8) : ℝ) : EReal) := by
  rw [Finset.sum_range]
  refine overHeads_row (fun h => upto_pos _ _ 7) fun h => ?_
  have R := row_at A b h
  have e := addexp_log (upto_pos (K h.val) (x b) 6) (part_pos (meet_pos (K h.val) (x b) 7)) (chain_row R 6 (by omega)) (term_row R 7 (by omega))
  pointwise [perHead]
  rw [neg_neg, e, ← upto_succ]

/-- The value found for a query and a head. -/
theorem found_row (A : Reals V x K) (b : Fin 2048) (h : Fin 8) (c : Fin 1024) :
    found V (ix2 ⟨b.val * 8 + h.val, by omega⟩ c)
      = V (Proc.devRef .tc main_arg2) (ix3 h ⟨place (K h.val) (x b) 8, place_lt _ _ 8⟩ c) := by
  have R := row_at A b h
  have lt := place_lt (K h.val) (x b) 8
  have at_ : leafSpot (res_main_v6 V) (seat (res_main_v2 V) (res_main_v7 V) (res_main_v6 V) 8) (ix1 ⟨b.val * 8 + h.val, by omega⟩)
      = BitVec.ofNat 32 (h.val * 256 + place (K h.val) (x b) 8) := by
    pointwise [leafSpot]
    rw [R.head, seat_row R 8 le_rfl]
    show BitVec.ofNat 32 h.val * BitVec.ofNat 32 256 + BitVec.ofNat 32 _ = _
    rw [← BitVec.ofNat_mul, ← BitVec.ofNat_add]
  unfold found
  rw [leaves_row (by omega) (wrapped_row (by omega) at_)]
  have e1 : (⟨(h.val * 256 + place (K h.val) (x b) 8) / 256, by omega⟩ : Fin 8) = h := Fin.ext (by show (h.val * 256 + place (K h.val) (x b) 8) / 256 = h.val; omega)
  have e2 : (⟨(h.val * 256 + place (K h.val) (x b) 8) % 256, by omega⟩ : Fin 256) = ⟨place (K h.val) (x b) 8, lt⟩ :=
    Fin.ext (by show (h.val * 256 + place (K h.val) (x b) 8) % 256 = place (K h.val) (x b) 8; omega)
  pointwise
  rw [e1, e2]

end Cert.ReferenceIdeal.Rows

end
-- ==== Proof.Equation.lean ====
/- The equation: on real queries and keys the kernel's two results are the reference's. -/
module

public import proofs.«01_k».proof.Proof.ArraysI
public import proofs.«01_k».proof.Proof.RefRow

@[expose] public section

noncomputable section

namespace Cert.Equation

open Cert.Tree
open Idealize.ShloMosaic

variable {m : (ℓ : Loc Cert.KernelIdeal.nD Cert.KernelIdeal.τ Cert.KernelIdeal.sig) → Buf (Elt Ideal) ℓ} {c : Dev Cert.KernelIdeal.nD}
variable {V : Valuation Cert.ReferenceIdeal.τ Cert.ReferenceIdeal.sig (Elt Ideal)} {x : Fin 2048 → Fin 1024 → ℝ} {K : ℕ → ℕ → Pair}

theorem support_same (A : Cert.ReferenceIdeal.Rows.Reals V x K) :
    Cert.ReferenceIdeal.Rows.support V = shapeCast Cert.KernelIdeal.S2048 (Cert.KernelIdeal.Body.Scores x K) Cert.KernelIdeal.Gen.shapeCasts_S2048x1_S2048 := by
  funext i
  obtain ⟨b, rfl⟩ : ∃ b : Fin 2048, i = ix1 b := ⟨i 0, funext fun a => match a with | ⟨0, _⟩ => rfl⟩
  rw [Cert.ReferenceIdeal.Rows.support_row A b]
  pointwise [Cert.KernelIdeal.Body.Scores]

theorem found_same (A : Cert.ReferenceIdeal.Rows.Reals V x K)
    (s : V (Proc.devRef .tc Cert.ReferenceIdeal.main_arg2) = Cert.KernelIdeal.Gen.V m c Cert.KernelIdeal.main_arg2) :
    Cert.ReferenceIdeal.Rows.found V = shapeCast Cert.KernelIdeal.S16384x1024 (Cert.KernelIdeal.Body.Found m c x K) Cert.KernelIdeal.Gen.shapeCasts_S2048x8x1024_S16384x1024 := by
  funext i
  obtain ⟨b, h, d, rfl⟩ : ∃ (b : Fin 2048) (h : Fin 8) (d : Fin 1024), i = ix2 ⟨b.val * 8 + h.val, by omega⟩ d :=
    ⟨⟨(i 0).val / 8, by have : (i 0).val < 16384 := (i 0).isLt; omega⟩, ⟨(i 0).val % 8, Nat.mod_lt _ (by decide)⟩, i 1, funext fun a => match a with
      | ⟨0, _⟩ => Fin.ext (by show (i 0).val = (i 0).val / 8 * 8 + (i 0).val % 8; omega)
      | ⟨1, _⟩ => rfl⟩
  rw [Cert.ReferenceIdeal.Rows.found_row A b h d]
  pointwise [Cert.KernelIdeal.Body.Found]
  exact congrFun s _

end Cert.Equation

end
-- ==== Proof.lean ====
/- The certificate: the frames of the kernel, of the kernel over the reals and of the reference; the kernel over the reals is the
printed kernel; and, on real queries and keys, its two results are the reference's. -/
module

public import proofs.«01_k».proof.Defs
public import proofs.«01_k».proof.Proof.FrameP
public import proofs.«01_k».proof.Proof.Finite
public import proofs.«01_k».proof.Proof.Equation
public import proofs.«01_k».proof.Proof.Gen.Kernel
public import proofs.«01_k».proof.Proof.Gen.KernelIdeal
public import proofs.«01_k».proof.Proof.Gen.Pre_finite
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

theorem frame_kernel : Cert.quiescent_Kernel (hKernel := Cert.Kernel.Gen.facts) := fun m g _ => Cert.Kernel.Body.frame_claim m g

theorem frame_ideal : Cert.quiescent_KernelIdeal (hKernelIdeal := Cert.KernelIdeal.Gen.facts) := fun m g _ =>
  (θ_run Cert.KernelIdeal.defs _ _).mono (fun r h => ⟨fun c => Cert.KernelIdeal.Body.arguments m r h.1 c, h.2⟩)
    (Cert.KernelIdeal.Body.run m g)

theorem frame_reference : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩)
    (Cert.ReferenceIdeal.Value.run m g)

/-- Under the precondition the kernel's query and key arrays are reals. -/
theorem kernel_reals (m : (ℓ : Loc Cert.KernelIdeal.nD Cert.KernelIdeal.τ Cert.KernelIdeal.sig) → Buf (Elt Ideal) ℓ)
    (h : Cert.Pre_KernelIdeal_finite (hPre_finite := Cert.Pre_finite.Gen.facts) m) (c : Dev Cert.KernelIdeal.nD) :
    ∃ x K, Cert.KernelIdeal.Body.Reals m c x K := by
  letI := Cert.Pre_finite.Gen.facts
  have q := Cert.Pre_finite.query_real _ _ _ _ (h c).1
  have k := Cert.Pre_finite.key_real _ _ _ _ (h c).2
  refine ⟨fun b d => (q (ix2 b d)).choose, fun h n f d => if b : h < 8 ∧ n < 255 then (k (ix4 ⟨h, b.1⟩ ⟨n, b.2⟩ f d)).choose else 0,
    fun b d => (q (ix2 b d)).choose_spec, fun h n f d => ?_⟩
  dsimp only
  rw [dif_pos ⟨h.isLt, n.isLt⟩]
  exact (k (ix4 h n f d)).choose_spec

theorem same_results : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' pre args
  choose x K A using kernel_reals m pre
  have B : ∀ c, Cert.ReferenceIdeal.Rows.Reals (StableHlo.launchContents m' c) (x c) (K c) := fun c =>
    ⟨fun b d => (congrFun (args c).1 (ix2 b d)).trans ((A c).1 b d), fun h n f d => (congrFun (args c).2.1 (ix4 h n f d)).trans ((A c).2 h n f d)⟩
  refine ⟨fun c => shapeCast Cert.KernelIdeal.S2048 (Cert.KernelIdeal.Body.Scores (x c) (K c)) Cert.KernelIdeal.Gen.shapeCasts_S2048x1_S2048,
    fun c => shapeCast Cert.KernelIdeal.S16384x1024 (Cert.KernelIdeal.Body.Found m c (x c) (K c)) Cert.KernelIdeal.Gen.shapeCasts_S2048x8x1024_S16384x1024, ?_, ?_⟩
  · exact (θ_run Cert.KernelIdeal.defs _ _).mono (fun r h c =>
      ⟨(Cert.KernelIdeal.Body.results (A c) r h.1).1, (Cert.KernelIdeal.Body.results (A c) r h.1).2, Cert.KernelIdeal.Body.arguments m r h.1 c⟩)
      (Cert.KernelIdeal.Body.run m g)
  · exact (θ_run Cert.ReferenceIdeal.defs _ _).mono (fun r h c =>
      ⟨((h c).1.trans (Cert.ReferenceIdeal.Rows.support_eq _)).trans (Cert.Equation.support_same (B c)),
       ((h c).2.1.trans (Cert.ReferenceIdeal.Rows.found_eq _)).trans (Cert.Equation.found_same (B c) (args c).2.2.1), (h c).2.2⟩)
      (Cert.ReferenceIdeal.Value.run m' g')

theorem claim : Cert.Claim := ⟨Cert.Kernel.Gen.facts, Cert.KernelIdeal.Gen.facts, Cert.ReferenceIdeal.Gen.facts, Cert.Pre_finite.Gen.facts,
  frame_kernel, frame_ideal, fun m g _ => frame_ideal m g trivial, frame_reference, fun m g _ => frame_reference m g trivial, trivial, same_results⟩

end Cert.Proof

end
